-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.BufferStatement Cert.KernelIdeal.S256x2x2048 Cert.KernelIdeal.S256x1x2048
  ∧ IdealRules.bf16_pair.BufferStatement Cert.KernelIdeal.S1024x2x512 Cert.KernelIdeal.S1024x1x512
  ∧ IdealRules.bf16_pair.Statement Cert.KernelIdeal.S16x128 Cert.KernelIdeal.S8x128
  ∧ IdealRules.bf16_pair.PackStatement Cert.KernelIdeal.S8x128
  ∧ IdealRules.bf16_pair.Statement Cert.KernelIdeal.S8x2x128 Cert.KernelIdeal.S8x1x128
  ∧ IdealRules.bf16_pair.Statement Cert.KernelIdeal.S256x2x2048 Cert.KernelIdeal.S256x1x2048
  ∧ IdealRules.bf16_pair.Statement Cert.KernelIdeal.S512x2048 Cert.KernelIdeal.S256x2048
  ∧ IdealRules.bf16_pair.Statement Cert.KernelIdeal.S1024x2x512 Cert.KernelIdeal.S1024x1x512
  ∧ IdealRules.bf16_pair.Statement Cert.KernelIdeal.S2048x512 Cert.KernelIdeal.S1024x512

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x2048 : Shape := ⟨3, ![2, 256, 2048]⟩
abbrev S2048x3584 : Shape := ⟨2, ![2048, 3584]⟩
abbrev S32x7168 : Shape := ⟨2, ![32, 7168]⟩
abbrev S2048x16 : Shape := ⟨2, ![2048, 16]⟩
abbrev S16x7168 : Shape := ⟨2, ![16, 7168]⟩
abbrev S16 : Shape := ⟨1, ![16]⟩
abbrev S_ : Shape := ⟨0, ![]⟩
abbrev S8 : Shape := ⟨1, ![8]⟩
abbrev S8x1 : Shape := ⟨2, ![8, 1]⟩
abbrev S8x128 : Shape := ⟨2, ![8, 128]⟩
abbrev S128 : Shape := ⟨1, ![128]⟩
abbrev S128x1 : Shape := ⟨2, ![128, 1]⟩
abbrev S1x128 : Shape := ⟨2, ![1, 128]⟩
abbrev S512x2048 : Shape := ⟨2, ![512, 2048]⟩
abbrev S512x7168 : Shape := ⟨2, ![512, 7168]⟩
abbrev S2048x256 : Shape := ⟨2, ![2048, 256]⟩
abbrev S32x512 : Shape := ⟨2, ![32, 512]⟩
abbrev S16x512 : Shape := ⟨2, ![16, 512]⟩
abbrev S512x512 : Shape := ⟨2, ![512, 512]⟩
abbrev S256x2048 : Shape := ⟨2, ![256, 2048]⟩
abbrev S512x32 : Shape := ⟨2, ![512, 32]⟩
abbrev S1024x512 : Shape := ⟨2, ![1024, 512]⟩
abbrev S16x128 : Shape := ⟨2, ![16, 128]⟩
abbrev S8x128x1 : Shape := ⟨3, ![8, 128, 1]⟩
abbrev S512x16 : Shape := ⟨2, ![512, 16]⟩
abbrev S32x128 : Shape := ⟨2, ![32, 128]⟩
abbrev S2048x512 : Shape := ⟨2, ![2048, 512]⟩

abbrev nBuf : Space → Nat
  | .hbm => 91
  | .vmem => 17
  | .smem => 0
  | _ => 0

abbrev bufTy : (tb : Table) → Fin (tcTables nBuf tb) → BufTy
  | .hbm, ⟨0, _⟩ => ⟨S2x256x2048, .bf16⟩
  | .hbm, ⟨1, _⟩ => ⟨S2048x3584, .i8⟩
  | .hbm, ⟨2, _⟩ => ⟨S32x7168, .f32⟩
  | .hbm, ⟨3, _⟩ => ⟨S2048x16, .bf16⟩
  | .hbm, ⟨4, _⟩ => ⟨S16x7168, .bf16⟩
  | .hbm, ⟨5, _⟩ => ⟨S16, .i16⟩
  | .hbm, ⟨6, _⟩ => ⟨S16, .i32⟩
  | .hbm, ⟨7, _⟩ => ⟨S16, .i32⟩
  | .hbm, ⟨8, _⟩ => ⟨S_, .i32⟩
  | .hbm, ⟨9, _⟩ => ⟨S16, .i32⟩
  | .hbm, ⟨10, _⟩ => ⟨S16, .i32⟩
  | .hbm, ⟨11, _⟩ => ⟨S16, .i32⟩
  | .hbm, ⟨12, _⟩ => ⟨S16, .i32⟩
  | .hbm, ⟨13, _⟩ => ⟨S8, .i32⟩
  | .hbm, ⟨14, _⟩ => ⟨S8x1, .i32⟩
  | .hbm, ⟨15, _⟩ => ⟨S8x128, .i32⟩
  | .hbm, ⟨16, _⟩ => ⟨S8, .i32⟩
  | .hbm, ⟨17, _⟩ => ⟨S8x1, .i32⟩
  | .hbm, ⟨18, _⟩ => ⟨S8x128, .i32⟩
  | .hbm, ⟨19, _⟩ => ⟨S128, .i32⟩
  | .hbm, ⟨20, _⟩ => ⟨S_, .i32⟩
  | .hbm, ⟨21, _⟩ => ⟨S128, .i32⟩
  | .hbm, ⟨22, _⟩ => ⟨S128, .i32⟩
  | .hbm, ⟨23, _⟩ => ⟨S_, .i32⟩
  | .hbm, ⟨24, _⟩ => ⟨S128, .i32⟩
  | .hbm, ⟨25, _⟩ => ⟨S128, .i1⟩
  | .hbm, ⟨26, _⟩ => ⟨S_, .i32⟩
  | .hbm, ⟨27, _⟩ => ⟨S128, .i32⟩
  | .hbm, ⟨28, _⟩ => ⟨S128, .i32⟩
  | .hbm, ⟨29, _⟩ => ⟨S128, .i32⟩
  | .hbm, ⟨30, _⟩ => ⟨S128x1, .i32⟩
  | .hbm, ⟨31, _⟩ => ⟨S128, .i16⟩
  | .hbm, ⟨32, _⟩ => ⟨S_, .i32⟩
  | .hbm, ⟨33, _⟩ => ⟨S128, .i32⟩
  | .hbm, ⟨34, _⟩ => ⟨S128, .i32⟩
  | .hbm, ⟨35, _⟩ => ⟨S_, .i32⟩
  | .hbm, ⟨36, _⟩ => ⟨S128, .i32⟩
  | .hbm, ⟨37, _⟩ => ⟨S128, .i1⟩
  | .hbm, ⟨38, _⟩ => ⟨S_, .i32⟩
  | .hbm, ⟨39, _⟩ => ⟨S128, .i32⟩
  | .hbm, ⟨40, _⟩ => ⟨S128, .i32⟩
  | .hbm, ⟨41, _⟩ => ⟨S128, .i32⟩
  | .hbm, ⟨42, _⟩ => ⟨S128x1, .i32⟩
  | .hbm, ⟨43, _⟩ => ⟨S128, .i16⟩
  | .hbm, ⟨44, _⟩ => ⟨S128, .i32⟩
  | .hbm, ⟨45, _⟩ => ⟨S128, .i32⟩
  | .hbm, ⟨46, _⟩ => ⟨S_, .i32⟩
  | .hbm, ⟨47, _⟩ => ⟨S128, .i32⟩
  | .hbm, ⟨48, _⟩ => ⟨S128, .i32⟩
  | .hbm, ⟨49, _⟩ => ⟨S128, .i32⟩
  | .hbm, ⟨50, _⟩ => ⟨S128, .i32⟩
  | .hbm, ⟨51, _⟩ => ⟨S1x128, .i32⟩
  | .hbm, ⟨52, _⟩ => ⟨S8x128, .i32⟩
  | .hbm, ⟨53, _⟩ => ⟨S_, .i32⟩
  | .hbm, ⟨54, _⟩ => ⟨S128, .i32⟩
  | .hbm, ⟨55, _⟩ => ⟨S128, .i32⟩
  | .hbm, ⟨56, _⟩ => ⟨S_, .i32⟩
  | .hbm, ⟨57, _⟩ => ⟨S128, .i32⟩
  | .hbm, ⟨58, _⟩ => ⟨S128, .i1⟩
  | .hbm, ⟨59, _⟩ => ⟨S_, .i32⟩
  | .hbm, ⟨60, _⟩ => ⟨S128, .i32⟩
  | .hbm, ⟨61, _⟩ => ⟨S128, .i32⟩
  | .hbm, ⟨62, _⟩ => ⟨S128, .i32⟩
  | .hbm, ⟨63, _⟩ => ⟨S128x1, .i32⟩
  | .hbm, ⟨64, _⟩ => ⟨S128, .i16⟩
  | .hbm, ⟨65, _⟩ => ⟨S_, .i32⟩
  | .hbm, ⟨66, _⟩ => ⟨S128, .i32⟩
  | .hbm, ⟨67, _⟩ => ⟨S128, .i32⟩
  | .hbm, ⟨68, _⟩ => ⟨S_, .i32⟩
  | .hbm, ⟨69, _⟩ => ⟨S128, .i32⟩
  | .hbm, ⟨70, _⟩ => ⟨S128, .i32⟩
  | .hbm, ⟨71, _⟩ => ⟨S_, .i32⟩
  | .hbm, ⟨72, _⟩ => ⟨S128, .i32⟩
  | .hbm, ⟨73, _⟩ => ⟨S128, .i1⟩
  | .hbm, ⟨74, _⟩ => ⟨S_, .i32⟩
  | .hbm, ⟨75, _⟩ => ⟨S128, .i32⟩
  | .hbm, ⟨76, _⟩ => ⟨S128, .i32⟩
  | .hbm, ⟨77, _⟩ => ⟨S128, .i32⟩
  | .hbm, ⟨78, _⟩ => ⟨S128x1, .i32⟩
  | .hbm, ⟨79, _⟩ => ⟨S128, .i16⟩
  | .hbm, ⟨80, _⟩ => ⟨S128, .i32⟩
  | .hbm, ⟨81, _⟩ => ⟨S128, .i32⟩
  | .hbm, ⟨82, _⟩ => ⟨S_, .i32⟩
  | .hbm, ⟨83, _⟩ => ⟨S128, .i32⟩
  | .hbm, ⟨84, _⟩ => ⟨S128, .i32⟩
  | .hbm, ⟨85, _⟩ => ⟨S128, .i32⟩
  | .hbm, ⟨86, _⟩ => ⟨S128, .i32⟩
  | .hbm, ⟨87, _⟩ => ⟨S1x128, .i32⟩
  | .hbm, ⟨88, _⟩ => ⟨S8x128, .i32⟩
  | .hbm, ⟨89, _⟩ => ⟨S512x2048, .bf16⟩
  | .hbm, ⟨90, _⟩ => ⟨S512x7168, .bf16⟩
  | .local _ .vmem, ⟨0, _⟩ => ⟨S512x2048, .bf16⟩
  | .local _ .vmem, ⟨1, _⟩ => ⟨S2048x256, .i8⟩
  | .local _ .vmem, ⟨2, _⟩ => ⟨S2048x256, .i8⟩
  | .local _ .vmem, ⟨3, _⟩ => ⟨S32x512, .f32⟩
  | .local _ .vmem, ⟨4, _⟩ => ⟨S32x512, .f32⟩
  | .local _ .vmem, ⟨5, _⟩ => ⟨S2048x16, .bf16⟩
  | .local _ .vmem, ⟨6, _⟩ => ⟨S16x512, .bf16⟩
  | .local _ .vmem, ⟨7, _⟩ => ⟨S16x512, .bf16⟩
  | .local _ .vmem, ⟨8, _⟩ => ⟨S8x128, .i32⟩
  | .local _ .vmem, ⟨9, _⟩ => ⟨S8x128, .i32⟩
  | .local _ .vmem, ⟨10, _⟩ => ⟨S8x128, .i32⟩
  | .local _ .vmem, ⟨11, _⟩ => ⟨S8x128, .i32⟩
  | .local _ .vmem, ⟨12, _⟩ => ⟨S512x512, .bf16⟩
  | .local _ .vmem, ⟨13, _⟩ => ⟨S512x512, .bf16⟩
  | .local _ .vmem, ⟨14, _⟩ => ⟨S256x2048, .i32⟩
  | .local _ .vmem, ⟨15, _⟩ => ⟨S512x32, .bf16⟩
  | .local _ .vmem, ⟨16, _⟩ => ⟨S1024x512, .i32⟩
  | _, _ => ⟨S2x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_c_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_c_5 : Ref sig .tc := ⟨.hbm, 35, rfl⟩
abbrev main_v24 : Ref sig .tc := ⟨.hbm, 36, rfl⟩
abbrev main_v25 : Ref sig .tc := ⟨.hbm, 37, rfl⟩
abbrev main_c_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_8 : Ref sig .tc := ⟨.hbm, 53, rfl⟩
abbrev main_v39 : Ref sig .tc := ⟨.hbm, 54, rfl⟩
abbrev main_v40 : Ref sig .tc := ⟨.hbm, 55, rfl⟩
abbrev main_c_9 : Ref sig .tc := ⟨.hbm, 56, rfl⟩
abbrev main_v41 : Ref sig .tc := ⟨.hbm, 57, rfl⟩
abbrev main_v42 : Ref sig .tc := ⟨.hbm, 58, rfl⟩
abbrev main_c_10 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_11 : Ref sig .tc := ⟨.hbm, 65, rfl⟩
abbrev main_v48 : Ref sig .tc := ⟨.hbm, 66, rfl⟩
abbrev main_v49 : Ref sig .tc := ⟨.hbm, 67, rfl⟩
abbrev main_c_12 : Ref sig .tc := ⟨.hbm, 68, rfl⟩
abbrev main_v50 : Ref sig .tc := ⟨.hbm, 69, rfl⟩
abbrev main_v51 : Ref sig .tc := ⟨.hbm, 70, rfl⟩
abbrev main_c_13 : Ref sig .tc := ⟨.hbm, 71, rfl⟩
abbrev main_v52 : Ref sig .tc := ⟨.hbm, 72, rfl⟩
abbrev main_v53 : Ref sig .tc := ⟨.hbm, 73, rfl⟩
abbrev main_c_14 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_15 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [BitOps F]

abbrev grid0 : Pipeline.Grid := ⟨1, ![14], ![false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

@[reducible] def k0_t1_loop : Scf.Loop 32 :=
  let c0_i32_27 : BitVec 32 := 0#32
  let c32_i32_28 : BitVec 32 := 32#32
  let v56 : BitVec 32 := Scalar.addi c0_i32_27 c32_i32_28
  let c1_i32_29 : BitVec 32 := 1#32
  ⟨c0_i32_27, v56, c1_i32_29⟩
def k0_mult1 (k0_t1 : Fin k0_t1_loop.trips) : BitVec 32 :=
  let c0_i32_27 : BitVec 32 := 0#32
  let c1_i32_29 : BitVec 32 := 1#32
  let arg14 : BitVec 32 := Scf.iv c0_i32_27 c1_i32_29 k0_t1
  let c16_i32 : BitVec 32 := 16#32
  let v66 : BitVec 32 := Scalar.muli arg14 c16_i32
  v66
def k0_off1 (k0_t1 : Fin k0_t1_loop.trips) : Fin 2 → Nat :=
  let c0_i32_27 : BitVec 32 := 0#32
  let c1_i32_29 : BitVec 32 := 1#32
  let arg14 : BitVec 32 := Scf.iv c0_i32_27 c1_i32_29 k0_t1
  let c16_i32 : BitVec 32 := 16#32
  let v66 : BitVec 32 := Scalar.muli arg14 c16_i32
  let v67 : BitVec 32 := v66
  let v68 : Index := Scalar.indexCast v67
  let c0_38 : Index := 0#32
  ![v68.toNat, 0]
def k0_mult2 (k0_t1 : Fin k0_t1_loop.trips) : BitVec 32 :=
  let c0_i32_27 : BitVec 32 := 0#32
  let c1_i32_29 : BitVec 32 := 1#32
  let arg14 : BitVec 32 := Scf.iv c0_i32_27 c1_i32_29 k0_t1
  let c8_i32 : BitVec 32 := 8#32
  let v85 : BitVec 32 := Scalar.muli arg14 c8_i32
  v85
def k0_off2 (k0_t1 : Fin k0_t1_loop.trips) : Fin 2 → Nat :=
  let c0_i32_27 : BitVec 32 := 0#32
  let c1_i32_29 : BitVec 32 := 1#32
  let arg14 : BitVec 32 := Scf.iv c0_i32_27 c1_i32_29 k0_t1
  let c8_i32 : BitVec 32 := 8#32
  let v85 : BitVec 32 := Scalar.muli arg14 c8_i32
  let v86 : BitVec 32 := v85
  let v87 : Index := Scalar.indexCast v86
  let c0_40 : Index := 0#32
  ![v87.toNat, 0]
def k0_mult3 (k0_t1 : Fin k0_t1_loop.trips) : BitVec 32 :=
  let c0_i32_27 : BitVec 32 := 0#32
  let c1_i32_29 : BitVec 32 := 1#32
  let arg14 : BitVec 32 := Scf.iv c0_i32_27 c1_i32_29 k0_t1
  let c16_i32_41 : BitVec 32 := 16#32
  let v91 : BitVec 32 := Scalar.muli arg14 c16_i32_41
  v91
def k0_off3 (k0_t1 : Fin k0_t1_loop.trips) : Fin 2 → Nat :=
  let c0_i32_27 : BitVec 32 := 0#32
  let c1_i32_29 : BitVec 32 := 1#32
  let arg14 : BitVec 32 := Scf.iv c0_i32_27 c1_i32_29 k0_t1
  let c16_i32_41 : BitVec 32 := 16#32
  let v91 : BitVec 32 := Scalar.muli arg14 c16_i32_41
  let v92 : BitVec 32 := v91
  let v93 : Index := Scalar.indexCast v92
  let c128 : Index := 128#32
  ![v93.toNat, 128]
def k0_mult4 (k0_t1 : Fin k0_t1_loop.trips) : BitVec 32 :=
  let c0_i32_27 : BitVec 32 := 0#32
  let c1_i32_29 : BitVec 32 := 1#32
  let arg14 : BitVec 32 := Scf.iv c0_i32_27 c1_i32_29 k0_t1
  let c8_i32_44 : BitVec 32 := 8#32
  let v110 : BitVec 32 := Scalar.muli arg14 c8_i32_44
  v110
def k0_off4 (k0_t1 : Fin k0_t1_loop.trips) : Fin 2 → Nat :=
  let c0_i32_27 : BitVec 32 := 0#32
  let c1_i32_29 : BitVec 32 := 1#32
  let arg14 : BitVec 32 := Scf.iv c0_i32_27 c1_i32_29 k0_t1
  let c8_i32_44 : BitVec 32 := 8#32
  let v110 : BitVec 32 := Scalar.muli arg14 c8_i32_44
  let v111 : BitVec 32 := v110
  let v112 : Index := Scalar.indexCast v111
  let c128_45 : Index := 128#32
  ![v112.toNat, 128]
def k0_mult5 (k0_t1 : Fin k0_t1_loop.trips) : BitVec 32 :=
  let c0_i32_27 : BitVec 32 := 0#32
  let c1_i32_29 : BitVec 32 := 1#32
  let arg14 : BitVec 32 := Scf.iv c0_i32_27 c1_i32_29 k0_t1
  let c16_i32_46 : BitVec 32 := 16#32
  let v116 : BitVec 32 := Scalar.muli arg14 c16_i32_46
  v116
def k0_off5 (k0_t1 : Fin k0_t1_loop.trips) : Fin 2 → Nat :=
  let c0_i32_27 : BitVec 32 := 0#32
  let c1_i32_29 : BitVec 32 := 1#32
  let arg14 : BitVec 32 := Scf.iv c0_i32_27 c1_i32_29 k0_t1
  let c16_i32_46 : BitVec 32 := 16#32
  let v116 : BitVec 32 := Scalar.muli arg14 c16_i32_46
  let v117 : BitVec 32 := v116
  let v118 : Index := Scalar.indexCast v117
  let c256 : Index := 256#32
  ![v118.toNat, 256]
def k0_mult6 (k0_t1 : Fin k0_t1_loop.trips) : BitVec 32 :=
  let c0_i32_27 : BitVec 32 := 0#32
  let c1_i32_29 : BitVec 32 := 1#32
  let arg14 : BitVec 32 := Scf.iv c0_i32_27 c1_i32_29 k0_t1
  let c8_i32_49 : BitVec 32 := 8#32
  let v135 : BitVec 32 := Scalar.muli arg14 c8_i32_49
  v135
def k0_off6 (k0_t1 : Fin k0_t1_loop.trips) : Fin 2 → Nat :=
  let c0_i32_27 : BitVec 32 := 0#32
  let c1_i32_29 : BitVec 32 := 1#32
  let arg14 : BitVec 32 := Scf.iv c0_i32_27 c1_i32_29 k0_t1
  let c8_i32_49 : BitVec 32 := 8#32
  let v135 : BitVec 32 := Scalar.muli arg14 c8_i32_49
  let v136 : BitVec 32 := v135
  let v137 : Index := Scalar.indexCast v136
  let c256_50 : Index := 256#32
  ![v137.toNat, 256]
def k0_mult7 (k0_t1 : Fin k0_t1_loop.trips) : BitVec 32 :=
  let c0_i32_27 : BitVec 32 := 0#32
  let c1_i32_29 : BitVec 32 := 1#32
  let arg14 : BitVec 32 := Scf.iv c0_i32_27 c1_i32_29 k0_t1
  let c16_i32_51 : BitVec 32 := 16#32
  let v141 : BitVec 32 := Scalar.muli arg14 c16_i32_51
  v141
def k0_off7 (k0_t1 : Fin k0_t1_loop.trips) : Fin 2 → Nat :=
  let c0_i32_27 : BitVec 32 := 0#32
  let c1_i32_29 : BitVec 32 := 1#32
  let arg14 : BitVec 32 := Scf.iv c0_i32_27 c1_i32_29 k0_t1
  let c16_i32_51 : BitVec 32 := 16#32
  let v141 : BitVec 32 := Scalar.muli arg14 c16_i32_51
  let v142 : BitVec 32 := v141
  let v143 : Index := Scalar.indexCast v142
  let c384 : Index := 384#32
  ![v143.toNat, 384]
def k0_mult8 (k0_t1 : Fin k0_t1_loop.trips) : BitVec 32 :=
  let c0_i32_27 : BitVec 32 := 0#32
  let c1_i32_29 : BitVec 32 := 1#32
  let arg14 : BitVec 32 := Scf.iv c0_i32_27 c1_i32_29 k0_t1
  let c8_i32_54 : BitVec 32 := 8#32
  let v160 : BitVec 32 := Scalar.muli arg14 c8_i32_54
  v160
def k0_off8 (k0_t1 : Fin k0_t1_loop.trips) : Fin 2 → Nat :=
  let c0_i32_27 : BitVec 32 := 0#32
  let c1_i32_29 : BitVec 32 := 1#32
  let arg14 : BitVec 32 := Scf.iv c0_i32_27 c1_i32_29 k0_t1
  let c8_i32_54 : BitVec 32 := 8#32
  let v160 : BitVec 32 := Scalar.muli arg14 c8_i32_54
  let v161 : BitVec 32 := v160
  let v162 : Index := Scalar.indexCast v161
  let c384_55 : Index := 384#32
  ![v162.toNat, 384]
def k0_mult9 (k0_t1 : Fin k0_t1_loop.trips) : BitVec 32 :=
  let c0_i32_27 : BitVec 32 := 0#32
  let c1_i32_29 : BitVec 32 := 1#32
  let arg14 : BitVec 32 := Scf.iv c0_i32_27 c1_i32_29 k0_t1
  let c16_i32_56 : BitVec 32 := 16#32
  let v166 : BitVec 32 := Scalar.muli arg14 c16_i32_56
  v166
def k0_off9 (k0_t1 : Fin k0_t1_loop.trips) : Fin 2 → Nat :=
  let c0_i32_27 : BitVec 32 := 0#32
  let c1_i32_29 : BitVec 32 := 1#32
  let arg14 : BitVec 32 := Scf.iv c0_i32_27 c1_i32_29 k0_t1
  let c16_i32_56 : BitVec 32 := 16#32
  let v166 : BitVec 32 := Scalar.muli arg14 c16_i32_56
  let v167 : BitVec 32 := v166
  let v168 : Index := Scalar.indexCast v167
  let c512 : Index := 512#32
  ![v168.toNat, 512]
def k0_mult10 (k0_t1 : Fin k0_t1_loop.trips) : BitVec 32 :=
  let c0_i32_27 : BitVec 32 := 0#32
  let c1_i32_29 : BitVec 32 := 1#32
  let arg14 : BitVec 32 := Scf.iv c0_i32_27 c1_i32_29 k0_t1
  let c8_i32_59 : BitVec 32 := 8#32
  let v185 : BitVec 32 := Scalar.muli arg14 c8_i32_59
  v185
def k0_off10 (k0_t1 : Fin k0_t1_loop.trips) : Fin 2 → Nat :=
  let c0_i32_27 : BitVec 32 := 0#32
  let c1_i32_29 : BitVec 32 := 1#32
  let arg14 : BitVec 32 := Scf.iv c0_i32_27 c1_i32_29 k0_t1
  let c8_i32_59 : BitVec 32 := 8#32
  let v185 : BitVec 32 := Scalar.muli arg14 c8_i32_59
  let v186 : BitVec 32 := v185
  let v187 : Index := Scalar.indexCast v186
  let c512_60 : Index := 512#32
  ![v187.toNat, 512]
def k0_mult11 (k0_t1 : Fin k0_t1_loop.trips) : BitVec 32 :=
  let c0_i32_27 : BitVec 32 := 0#32
  let c1_i32_29 : BitVec 32 := 1#32
  let arg14 : BitVec 32 := Scf.iv c0_i32_27 c1_i32_29 k0_t1
  let c16_i32_61 : BitVec 32 := 16#32
  let v191 : BitVec 32 := Scalar.muli arg14 c16_i32_61
  v191
def k0_off11 (k0_t1 : Fin k0_t1_loop.trips) : Fin 2 → Nat :=
  let c0_i32_27 : BitVec 32 := 0#32
  let c1_i32_29 : BitVec 32 := 1#32
  let arg14 : BitVec 32 := Scf.iv c0_i32_27 c1_i32_29 k0_t1
  let c16_i32_61 : BitVec 32 := 16#32
  let v191 : BitVec 32 := Scalar.muli arg14 c16_i32_61
  let v192 : BitVec 32 := v191
  let v193 : Index := Scalar.indexCast v192
  let c640 : Index := 640#32
  ![v193.toNat, 640]
def k0_mult12 (k0_t1 : Fin k0_t1_loop.trips) : BitVec 32 :=
  let c0_i32_27 : BitVec 32 := 0#32
  let c1_i32_29 : BitVec 32 := 1#32
  let arg14 : BitVec 32 := Scf.iv c0_i32_27 c1_i32_29 k0_t1
  let c8_i32_64 : BitVec 32 := 8#32
  let v210 : BitVec 32 := Scalar.muli arg14 c8_i32_64
  v210
def k0_off12 (k0_t1 : Fin k0_t1_loop.trips) : Fin 2 → Nat :=
  let c0_i32_27 : BitVec 32 := 0#32
  let c1_i32_29 : BitVec 32 := 1#32
  let arg14 : BitVec 32 := Scf.iv c0_i32_27 c1_i32_29 k0_t1
  let c8_i32_64 : BitVec 32 := 8#32
  let v210 : BitVec 32 := Scalar.muli arg14 c8_i32_64
  let v211 : BitVec 32 := v210
  let v212 : Index := Scalar.indexCast v211
  let c640_65 : Index := 640#32
  ![v212.toNat, 640]
def k0_mult13 (k0_t1 : Fin k0_t1_loop.trips) : BitVec 32 :=
  let c0_i32_27 : BitVec 32 := 0#32
  let c1_i32_29 : BitVec 32 := 1#32
  let arg14 : BitVec 32 := Scf.iv c0_i32_27 c1_i32_29 k0_t1
  let c16_i32_66 : BitVec 32 := 16#32
  let v216 : BitVec 32 := Scalar.muli arg14 c16_i32_66
  v216
def k0_off13 (k0_t1 : Fin k0_t1_loop.trips) : Fin 2 → Nat :=
  let c0_i32_27 : BitVec 32 := 0#32
  let c1_i32_29 : BitVec 32 := 1#32
  let arg14 : BitVec 32 := Scf.iv c0_i32_27 c1_i32_29 k0_t1
  let c16_i32_66 : BitVec 32 := 16#32
  let v216 : BitVec 32 := Scalar.muli arg14 c16_i32_66
  let v217 : BitVec 32 := v216
  let v218 : Index := Scalar.indexCast v217
  let c768 : Index := 768#32
  ![v218.toNat, 768]
def k0_mult14 (k0_t1 : Fin k0_t1_loop.trips) : BitVec 32 :=
  let c0_i32_27 : BitVec 32 := 0#32
  let c1_i32_29 : BitVec 32 := 1#32
  let arg14 : BitVec 32 := Scf.iv c0_i32_27 c1_i32_29 k0_t1
  let c8_i32_69 : BitVec 32 := 8#32
  let v235 : BitVec 32 := Scalar.muli arg14 c8_i32_69
  v235
def k0_off14 (k0_t1 : Fin k0_t1_loop.trips) : Fin 2 → Nat :=
  let c0_i32_27 : BitVec 32 := 0#32
  let c1_i32_29 : BitVec 32 := 1#32
  let arg14 : BitVec 32 := Scf.iv c0_i32_27 c1_i32_29 k0_t1
  let c8_i32_69 : BitVec 32 := 8#32
  let v235 : BitVec 32 := Scalar.muli arg14 c8_i32_69
  let v236 : BitVec 32 := v235
  let v237 : Index := Scalar.indexCast v236
  let c768_70 : Index := 768#32
  ![v237.toNat, 768]
def k0_mult15 (k0_t1 : Fin k0_t1_loop.trips) : BitVec 32 :=
  let c0_i32_27 : BitVec 32 := 0#32
  let c1_i32_29 : BitVec 32 := 1#32
  let arg14 : BitVec 32 := Scf.iv c0_i32_27 c1_i32_29 k0_t1
  let c16_i32_71 : BitVec 32 := 16#32
  let v241 : BitVec 32 := Scalar.muli arg14 c16_i32_71
  v241
def k0_off15 (k0_t1 : Fin k0_t1_loop.trips) : Fin 2 → Nat :=
  let c0_i32_27 : BitVec 32 := 0#32
  let c1_i32_29 : BitVec 32 := 1#32
  let arg14 : BitVec 32 := Scf.iv c0_i32_27 c1_i32_29 k0_t1
  let c16_i32_71 : BitVec 32 := 16#32
  let v241 : BitVec 32 := Scalar.muli arg14 c16_i32_71
  let v242 : BitVec 32 := v241
  let v243 : Index := Scalar.indexCast v242
  let c896 : Index := 896#32
  ![v243.toNat, 896]
def k0_mult16 (k0_t1 : Fin k0_t1_loop.trips) : BitVec 32 :=
  let c0_i32_27 : BitVec 32 := 0#32
  let c1_i32_29 : BitVec 32 := 1#32
  let arg14 : BitVec 32 := Scf.iv c0_i32_27 c1_i32_29 k0_t1
  let c8_i32_74 : BitVec 32 := 8#32
  let v260 : BitVec 32 := Scalar.muli arg14 c8_i32_74
  v260
def k0_off16 (k0_t1 : Fin k0_t1_loop.trips) : Fin 2 → Nat :=
  let c0_i32_27 : BitVec 32 := 0#32
  let c1_i32_29 : BitVec 32 := 1#32
  let arg14 : BitVec 32 := Scf.iv c0_i32_27 c1_i32_29 k0_t1
  let c8_i32_74 : BitVec 32 := 8#32
  let v260 : BitVec 32 := Scalar.muli arg14 c8_i32_74
  let v261 : BitVec 32 := v260
  let v262 : Index := Scalar.indexCast v261
  let c896_75 : Index := 896#32
  ![v262.toNat, 896]
def k0_mult17 (k0_t1 : Fin k0_t1_loop.trips) : BitVec 32 :=
  let c0_i32_27 : BitVec 32 := 0#32
  let c1_i32_29 : BitVec 32 := 1#32
  let arg14 : BitVec 32 := Scf.iv c0_i32_27 c1_i32_29 k0_t1
  let c16_i32_76 : BitVec 32 := 16#32
  let v266 : BitVec 32 := Scalar.muli arg14 c16_i32_76
  v266
def k0_off17 (k0_t1 : Fin k0_t1_loop.trips) : Fin 2 → Nat :=
  let c0_i32_27 : BitVec 32 := 0#32
  let c1_i32_29 : BitVec 32 := 1#32
  let arg14 : BitVec 32 := Scf.iv c0_i32_27 c1_i32_29 k0_t1
  let c16_i32_76 : BitVec 32 := 16#32
  let v266 : BitVec 32 := Scalar.muli arg14 c16_i32_76
  let v267 : BitVec 32 := v266
  let v268 : Index := Scalar.indexCast v267
  let c1024 : Index := 1024#32
  ![v268.toNat, 1024]
def k0_mult18 (k0_t1 : Fin k0_t1_loop.trips) : BitVec 32 :=
  let c0_i32_27 : BitVec 32 := 0#32
  let c1_i32_29 : BitVec 32 := 1#32
  let arg14 : BitVec 32 := Scf.iv c0_i32_27 c1_i32_29 k0_t1
  let c8_i32_79 : BitVec 32 := 8#32
  let v285 : BitVec 32 := Scalar.muli arg14 c8_i32_79
  v285
def k0_off18 (k0_t1 : Fin k0_t1_loop.trips) : Fin 2 → Nat :=
  let c0_i32_27 : BitVec 32 := 0#32
  let c1_i32_29 : BitVec 32 := 1#32
  let arg14 : BitVec 32 := Scf.iv c0_i32_27 c1_i32_29 k0_t1
  let c8_i32_79 : BitVec 32 := 8#32
  let v285 : BitVec 32 := Scalar.muli arg14 c8_i32_79
  let v286 : BitVec 32 := v285
  let v287 : Index := Scalar.indexCast v286
  let c1024_80 : Index := 1024#32
  ![v287.toNat, 1024]
def k0_mult19 (k0_t1 : Fin k0_t1_loop.trips) : BitVec 32 :=
  let c0_i32_27 : BitVec 32 := 0#32
  let c1_i32_29 : BitVec 32 := 1#32
  let arg14 : BitVec 32 := Scf.iv c0_i32_27 c1_i32_29 k0_t1
  let c16_i32_81 : BitVec 32 := 16#32
  let v291 : BitVec 32 := Scalar.muli arg14 c16_i32_81
  v291
def k0_off19 (k0_t1 : Fin k0_t1_loop.trips) : Fin 2 → Nat :=
  let c0_i32_27 : BitVec 32 := 0#32
  let c1_i32_29 : BitVec 32 := 1#32
  let arg14 : BitVec 32 := Scf.iv c0_i32_27 c1_i32_29 k0_t1
  let c16_i32_81 : BitVec 32 := 16#32
  let v291 : BitVec 32 := Scalar.muli arg14 c16_i32_81
  let v292 : BitVec 32 := v291
  let v293 : Index := Scalar.indexCast v292
  let c1152 : Index := 1152#32
  ![v293.toNat, 1152]
def k0_mult20 (k0_t1 : Fin k0_t1_loop.trips) : BitVec 32 :=
  let c0_i32_27 : BitVec 32 := 0#32
  let c1_i32_29 : BitVec 32 := 1#32
  let arg14 : BitVec 32 := Scf.iv c0_i32_27 c1_i32_29 k0_t1
  let c8_i32_84 : BitVec 32 := 8#32
  let v310 : BitVec 32 := Scalar.muli arg14 c8_i32_84
  v310
def k0_off20 (k0_t1 : Fin k0_t1_loop.trips) : Fin 2 → Nat :=
  let c0_i32_27 : BitVec 32 := 0#32
  let c1_i32_29 : BitVec 32 := 1#32
  let arg14 : BitVec 32 := Scf.iv c0_i32_27 c1_i32_29 k0_t1
  let c8_i32_84 : BitVec 32 := 8#32
  let v310 : BitVec 32 := Scalar.muli arg14 c8_i32_84
  let v311 : BitVec 32 := v310
  let v312 : Index := Scalar.indexCast v311
  let c1152_85 : Index := 1152#32
  ![v312.toNat, 1152]
def k0_mult21 (k0_t1 : Fin k0_t1_loop.trips) : BitVec 32 :=
  let c0_i32_27 : BitVec 32 := 0#32
  let c1_i32_29 : BitVec 32 := 1#32
  let arg14 : BitVec 32 := Scf.iv c0_i32_27 c1_i32_29 k0_t1
  let c16_i32_86 : BitVec 32 := 16#32
  let v316 : BitVec 32 := Scalar.muli arg14 c16_i32_86
  v316
def k0_off21 (k0_t1 : Fin k0_t1_loop.trips) : Fin 2 → Nat :=
  let c0_i32_27 : BitVec 32 := 0#32
  let c1_i32_29 : BitVec 32 := 1#32
  let arg14 : BitVec 32 := Scf.iv c0_i32_27 c1_i32_29 k0_t1
  let c16_i32_86 : BitVec 32 := 16#32
  let v316 : BitVec 32 := Scalar.muli arg14 c16_i32_86
  let v317 : BitVec 32 := v316
  let v318 : Index := Scalar.indexCast v317
  let c1280 : Index := 1280#32
  ![v318.toNat, 1280]
def k0_mult22 (k0_t1 : Fin k0_t1_loop.trips) : BitVec 32 :=
  let c0_i32_27 : BitVec 32 := 0#32
  let c1_i32_29 : BitVec 32 := 1#32
  let arg14 : BitVec 32 := Scf.iv c0_i32_27 c1_i32_29 k0_t1
  let c8_i32_89 : BitVec 32 := 8#32
  let v335 : BitVec 32 := Scalar.muli arg14 c8_i32_89
  v335
def k0_off22 (k0_t1 : Fin k0_t1_loop.trips) : Fin 2 → Nat :=
  let c0_i32_27 : BitVec 32 := 0#32
  let c1_i32_29 : BitVec 32 := 1#32
  let arg14 : BitVec 32 := Scf.iv c0_i32_27 c1_i32_29 k0_t1
  let c8_i32_89 : BitVec 32 := 8#32
  let v335 : BitVec 32 := Scalar.muli arg14 c8_i32_89
  let v336 : BitVec 32 := v335
  let v337 : Index := Scalar.indexCast v336
  let c1280_90 : Index := 1280#32
  ![v337.toNat, 1280]
def k0_mult23 (k0_t1 : Fin k0_t1_loop.trips) : BitVec 32 :=
  let c0_i32_27 : BitVec 32 := 0#32
  let c1_i32_29 : BitVec 32 := 1#32
  let arg14 : BitVec 32 := Scf.iv c0_i32_27 c1_i32_29 k0_t1
  let c16_i32_91 : BitVec 32 := 16#32
  let v341 : BitVec 32 := Scalar.muli arg14 c16_i32_91
  v341
def k0_off23 (k0_t1 : Fin k0_t1_loop.trips) : Fin 2 → Nat :=
  let c0_i32_27 : BitVec 32 := 0#32
  let c1_i32_29 : BitVec 32 := 1#32
  let arg14 : BitVec 32 := Scf.iv c0_i32_27 c1_i32_29 k0_t1
  let c16_i32_91 : BitVec 32 := 16#32
  let v341 : BitVec 32 := Scalar.muli arg14 c16_i32_91
  let v342 : BitVec 32 := v341
  let v343 : Index := Scalar.indexCast v342
  let c1408 : Index := 1408#32
  ![v343.toNat, 1408]
def k0_mult24 (k0_t1 : Fin k0_t1_loop.trips) : BitVec 32 :=
  let c0_i32_27 : BitVec 32 := 0#32
  let c1_i32_29 : BitVec 32 := 1#32
  let arg14 : BitVec 32 := Scf.iv c0_i32_27 c1_i32_29 k0_t1
  let c8_i32_94 : BitVec 32 := 8#32
  let v360 : BitVec 32 := Scalar.muli arg14 c8_i32_94
  v360
def k0_off24 (k0_t1 : Fin k0_t1_loop.trips) : Fin 2 → Nat :=
  let c0_i32_27 : BitVec 32 := 0#32
  let c1_i32_29 : BitVec 32 := 1#32
  let arg14 : BitVec 32 := Scf.iv c0_i32_27 c1_i32_29 k0_t1
  let c8_i32_94 : BitVec 32 := 8#32
  let v360 : BitVec 32 := Scalar.muli arg14 c8_i32_94
  let v361 : BitVec 32 := v360
  let v362 : Index := Scalar.indexCast v361
  let c1408_95 : Index := 1408#32
  ![v362.toNat, 1408]
def k0_mult25 (k0_t1 : Fin k0_t1_loop.trips) : BitVec 32 :=
  let c0_i32_27 : BitVec 32 := 0#32
  let c1_i32_29 : BitVec 32 := 1#32
  let arg14 : BitVec 32 := Scf.iv c0_i32_27 c1_i32_29 k0_t1
  let c16_i32_96 : BitVec 32 := 16#32
  let v366 : BitVec 32 := Scalar.muli arg14 c16_i32_96
  v366
def k0_off25 (k0_t1 : Fin k0_t1_loop.trips) : Fin 2 → Nat :=
  let c0_i32_27 : BitVec 32 := 0#32
  let c1_i32_29 : BitVec 32 := 1#32
  let arg14 : BitVec 32 := Scf.iv c0_i32_27 c1_i32_29 k0_t1
  let c16_i32_96 : BitVec 32 := 16#32
  let v366 : BitVec 32 := Scalar.muli arg14 c16_i32_96
  let v367 : BitVec 32 := v366
  let v368 : Index := Scalar.indexCast v367
  let c1536 : Index := 1536#32
  ![v368.toNat, 1536]
def k0_mult26 (k0_t1 : Fin k0_t1_loop.trips) : BitVec 32 :=
  let c0_i32_27 : BitVec 32 := 0#32
  let c1_i32_29 : BitVec 32 := 1#32
  let arg14 : BitVec 32 := Scf.iv c0_i32_27 c1_i32_29 k0_t1
  let c8_i32_99 : BitVec 32 := 8#32
  let v385 : BitVec 32 := Scalar.muli arg14 c8_i32_99
  v385
def k0_off26 (k0_t1 : Fin k0_t1_loop.trips) : Fin 2 → Nat :=
  let c0_i32_27 : BitVec 32 := 0#32
  let c1_i32_29 : BitVec 32 := 1#32
  let arg14 : BitVec 32 := Scf.iv c0_i32_27 c1_i32_29 k0_t1
  let c8_i32_99 : BitVec 32 := 8#32
  let v385 : BitVec 32 := Scalar.muli arg14 c8_i32_99
  let v386 : BitVec 32 := v385
  let v387 : Index := Scalar.indexCast v386
  let c1536_100 : Index := 1536#32
  ![v387.toNat, 1536]
def k0_mult27 (k0_t1 : Fin k0_t1_loop.trips) : BitVec 32 :=
  let c0_i32_27 : BitVec 32 := 0#32
  let c1_i32_29 : BitVec 32 := 1#32
  let arg14 : BitVec 32 := Scf.iv c0_i32_27 c1_i32_29 k0_t1
  let c16_i32_101 : BitVec 32 := 16#32
  let v391 : BitVec 32 := Scalar.muli arg14 c16_i32_101
  v391
def k0_off27 (k0_t1 : Fin k0_t1_loop.trips) : Fin 2 → Nat :=
  let c0_i32_27 : BitVec 32 := 0#32
  let c1_i32_29 : BitVec 32 := 1#32
  let arg14 : BitVec 32 := Scf.iv c0_i32_27 c1_i32_29 k0_t1
  let c16_i32_101 : BitVec 32 := 16#32
  let v391 : BitVec 32 := Scalar.muli arg14 c16_i32_101
  let v392 : BitVec 32 := v391
  let v393 : Index := Scalar.indexCast v392
  let c1664 : Index := 1664#32
  ![v393.toNat, 1664]
def k0_mult28 (k0_t1 : Fin k0_t1_loop.trips) : BitVec 32 :=
  let c0_i32_27 : BitVec 32 := 0#32
  let c1_i32_29 : BitVec 32 := 1#32
  let arg14 : BitVec 32 := Scf.iv c0_i32_27 c1_i32_29 k0_t1
  let c8_i32_104 : BitVec 32 := 8#32
  let v410 : BitVec 32 := Scalar.muli arg14 c8_i32_104
  v410
def k0_off28 (k0_t1 : Fin k0_t1_loop.trips) : Fin 2 → Nat :=
  let c0_i32_27 : BitVec 32 := 0#32
  let c1_i32_29 : BitVec 32 := 1#32
  let arg14 : BitVec 32 := Scf.iv c0_i32_27 c1_i32_29 k0_t1
  let c8_i32_104 : BitVec 32 := 8#32
  let v410 : BitVec 32 := Scalar.muli arg14 c8_i32_104
  let v411 : BitVec 32 := v410
  let v412 : Index := Scalar.indexCast v411
  let c1664_105 : Index := 1664#32
  ![v412.toNat, 1664]
def k0_mult29 (k0_t1 : Fin k0_t1_loop.trips) : BitVec 32 :=
  let c0_i32_27 : BitVec 32 := 0#32
  let c1_i32_29 : BitVec 32 := 1#32
  let arg14 : BitVec 32 := Scf.iv c0_i32_27 c1_i32_29 k0_t1
  let c16_i32_106 : BitVec 32 := 16#32
  let v416 : BitVec 32 := Scalar.muli arg14 c16_i32_106
  v416
def k0_off29 (k0_t1 : Fin k0_t1_loop.trips) : Fin 2 → Nat :=
  let c0_i32_27 : BitVec 32 := 0#32
  let c1_i32_29 : BitVec 32 := 1#32
  let arg14 : BitVec 32 := Scf.iv c0_i32_27 c1_i32_29 k0_t1
  let c16_i32_106 : BitVec 32 := 16#32
  let v416 : BitVec 32 := Scalar.muli arg14 c16_i32_106
  let v417 : BitVec 32 := v416
  let v418 : Index := Scalar.indexCast v417
  let c1792 : Index := 1792#32
  ![v418.toNat, 1792]
def k0_mult30 (k0_t1 : Fin k0_t1_loop.trips) : BitVec 32 :=
  let c0_i32_27 : BitVec 32 := 0#32
  let c1_i32_29 : BitVec 32 := 1#32
  let arg14 : BitVec 32 := Scf.iv c0_i32_27 c1_i32_29 k0_t1
  let c8_i32_109 : BitVec 32 := 8#32
  let v435 : BitVec 32 := Scalar.muli arg14 c8_i32_109
  v435
def k0_off30 (k0_t1 : Fin k0_t1_loop.trips) : Fin 2 → Nat :=
  let c0_i32_27 : BitVec 32 := 0#32
  let c1_i32_29 : BitVec 32 := 1#32
  let arg14 : BitVec 32 := Scf.iv c0_i32_27 c1_i32_29 k0_t1
  let c8_i32_109 : BitVec 32 := 8#32
  let v435 : BitVec 32 := Scalar.muli arg14 c8_i32_109
  let v436 : BitVec 32 := v435
  let v437 : Index := Scalar.indexCast v436
  let c1792_110 : Index := 1792#32
  ![v437.toNat, 1792]
def k0_mult31 (k0_t1 : Fin k0_t1_loop.trips) : BitVec 32 :=
  let c0_i32_27 : BitVec 32 := 0#32
  let c1_i32_29 : BitVec 32 := 1#32
  let arg14 : BitVec 32 := Scf.iv c0_i32_27 c1_i32_29 k0_t1
  let c16_i32_111 : BitVec 32 := 16#32
  let v441 : BitVec 32 := Scalar.muli arg14 c16_i32_111
  v441
def k0_off31 (k0_t1 : Fin k0_t1_loop.trips) : Fin 2 → Nat :=
  let c0_i32_27 : BitVec 32 := 0#32
  let c1_i32_29 : BitVec 32 := 1#32
  let arg14 : BitVec 32 := Scf.iv c0_i32_27 c1_i32_29 k0_t1
  let c16_i32_111 : BitVec 32 := 16#32
  let v441 : BitVec 32 := Scalar.muli arg14 c16_i32_111
  let v442 : BitVec 32 := v441
  let v443 : Index := Scalar.indexCast v442
  let c1920 : Index := 1920#32
  ![v443.toNat, 1920]
def k0_mult32 (k0_t1 : Fin k0_t1_loop.trips) : BitVec 32 :=
  let c0_i32_27 : BitVec 32 := 0#32
  let c1_i32_29 : BitVec 32 := 1#32
  let arg14 : BitVec 32 := Scf.iv c0_i32_27 c1_i32_29 k0_t1
  let c8_i32_114 : BitVec 32 := 8#32
  let v460 : BitVec 32 := Scalar.muli arg14 c8_i32_114
  v460
def k0_off32 (k0_t1 : Fin k0_t1_loop.trips) : Fin 2 → Nat :=
  let c0_i32_27 : BitVec 32 := 0#32
  let c1_i32_29 : BitVec 32 := 1#32
  let arg14 : BitVec 32 := Scf.iv c0_i32_27 c1_i32_29 k0_t1
  let c8_i32_114 : BitVec 32 := 8#32
  let v460 : BitVec 32 := Scalar.muli arg14 c8_i32_114
  let v461 : BitVec 32 := v460
  let v462 : Index := Scalar.indexCast v461
  let c1920_115 : Index := 1920#32
  ![v462.toNat, 1920]
@[reducible] def k0_t2_loop : Scf.Loop 32 :=
  let c0_i32_9 : BitVec 32 := 0#32
  let c32_i32 : BitVec 32 := 32#32
  let v24 : BitVec 32 := Scalar.addi c0_i32_9 c32_i32
  let c1_i32_10 : BitVec 32 := 1#32
  ⟨c0_i32_9, v24, c1_i32_10⟩
def k0_off33 (k0_t2 : Fin k0_t2_loop.trips) : Fin 2 → Nat :=
  let c0_i32_9 : BitVec 32 := 0#32
  let c1_i32_10 : BitVec 32 := 1#32
  let arg14 : BitVec 32 := Scf.iv c0_i32_9 c1_i32_10 k0_t2
  let v37 : Index := Scalar.indexCast arg14
  let c0_23 : Index := 0#32
  ![v37.toNat, 0]
def k0_mult33 (k0_t2 : Fin k0_t2_loop.trips) : BitVec 32 :=
  let c0_i32_9 : BitVec 32 := 0#32
  let c1_i32_10 : BitVec 32 := 1#32
  let arg14 : BitVec 32 := Scf.iv c0_i32_9 c1_i32_10 k0_t2
  let c64_i32 : BitVec 32 := 64#32
  let v53 : BitVec 32 := Scalar.muli arg14 c64_i32
  let c0_i32_25 : BitVec 32 := 0#32
  let v54 : BitVec 32 := Scalar.addi v53 c0_i32_25
  v54
def k0_off34 (k0_t2 : Fin k0_t2_loop.trips) (c0_i32_25 : BitVec 32) : Fin 2 → Nat :=
  let c0_i32_9 : BitVec 32 := 0#32
  let c1_i32_10 : BitVec 32 := 1#32
  let arg14 : BitVec 32 := Scf.iv c0_i32_9 c1_i32_10 k0_t2
  let c64_i32 : BitVec 32 := 64#32
  let v53 : BitVec 32 := Scalar.muli arg14 c64_i32
  let v54 : BitVec 32 := Scalar.addi v53 c0_i32_25
  let v55 : BitVec 32 := v54
  let v56 : Index := Scalar.indexCast v55
  let c0_26 : Index := 0#32
  ![v56.toNat, 0]
def k0_mult34 (k0_t2 : Fin k0_t2_loop.trips) : BitVec 32 :=
  let c0_i32_9 : BitVec 32 := 0#32
  let c1_i32_10 : BitVec 32 := 1#32
  let arg14 : BitVec 32 := Scf.iv c0_i32_9 c1_i32_10 k0_t2
  let c32_i32_34 : BitVec 32 := 32#32
  let v136 : BitVec 32 := Scalar.muli arg14 c32_i32_34
  let c0_i32_35 : BitVec 32 := 0#32
  let v137 : BitVec 32 := Scalar.addi v136 c0_i32_35
  let c0_i32_36 : BitVec 32 := 0#32
  let v138 : BitVec 32 := Scalar.addi v137 c0_i32_36
  v138
def k0_off35 (k0_t2 : Fin k0_t2_loop.trips) (c0_i32_35 : BitVec 32) (c0_i32_36 : BitVec 32) : Fin 2 → Nat :=
  let c0_i32_9 : BitVec 32 := 0#32
  let c1_i32_10 : BitVec 32 := 1#32
  let arg14 : BitVec 32 := Scf.iv c0_i32_9 c1_i32_10 k0_t2
  let c32_i32_34 : BitVec 32 := 32#32
  let v136 : BitVec 32 := Scalar.muli arg14 c32_i32_34
  let v137 : BitVec 32 := Scalar.addi v136 c0_i32_35
  let v138 : BitVec 32 := Scalar.addi v137 c0_i32_36
  let v139 : BitVec 32 := v138
  let v140 : Index := Scalar.indexCast v139
  let c0_37 : Index := 0#32
  ![v140.toNat, 0]
def k0_mult35 (k0_t2 : Fin k0_t2_loop.trips) : BitVec 32 :=
  let c0_i32_9 : BitVec 32 := 0#32
  let c1_i32_10 : BitVec 32 := 1#32
  let arg14 : BitVec 32 := Scf.iv c0_i32_9 c1_i32_10 k0_t2
  let c32_i32_38 : BitVec 32 := 32#32
  let v144 : BitVec 32 := Scalar.muli arg14 c32_i32_38
  let c0_i32_39 : BitVec 32 := 0#32
  let v145 : BitVec 32 := Scalar.addi v144 c0_i32_39
  let c8_i32_40 : BitVec 32 := 8#32
  let v146 : BitVec 32 := Scalar.addi v145 c8_i32_40
  v146
def k0_mult36 (k0_t2 : Fin k0_t2_loop.trips) : BitVec 32 :=
  let c0_i32_9 : BitVec 32 := 0#32
  let c1_i32_10 : BitVec 32 := 1#32
  let arg14 : BitVec 32 := Scf.iv c0_i32_9 c1_i32_10 k0_t2
  let c64_i32_42 : BitVec 32 := 64#32
  let v152 : BitVec 32 := Scalar.muli arg14 c64_i32_42
  let c32_i32_43 : BitVec 32 := 32#32
  let v153 : BitVec 32 := Scalar.addi v152 c32_i32_43
  v153
def k0_mult37 (k0_t2 : Fin k0_t2_loop.trips) : BitVec 32 :=
  let c0_i32_9 : BitVec 32 := 0#32
  let c1_i32_10 : BitVec 32 := 1#32
  let arg14 : BitVec 32 := Scf.iv c0_i32_9 c1_i32_10 k0_t2
  let c32_i32_57 : BitVec 32 := 32#32
  let v235 : BitVec 32 := Scalar.muli arg14 c32_i32_57
  let c16_i32_58 : BitVec 32 := 16#32
  let v236 : BitVec 32 := Scalar.addi v235 c16_i32_58
  let c0_i32_59 : BitVec 32 := 0#32
  let v237 : BitVec 32 := Scalar.addi v236 c0_i32_59
  v237
def k0_mult38 (k0_t2 : Fin k0_t2_loop.trips) : BitVec 32 :=
  let c0_i32_9 : BitVec 32 := 0#32
  let c1_i32_10 : BitVec 32 := 1#32
  let arg14 : BitVec 32 := Scf.iv c0_i32_9 c1_i32_10 k0_t2
  let c32_i32_61 : BitVec 32 := 32#32
  let v243 : BitVec 32 := Scalar.muli arg14 c32_i32_61
  let c16_i32_62 : BitVec 32 := 16#32
  let v244 : BitVec 32 := Scalar.addi v243 c16_i32_62
  let c8_i32_63 : BitVec 32 := 8#32
  let v245 : BitVec 32 := Scalar.addi v244 c8_i32_63
  v245
def k0_off36 (k0_t2 : Fin k0_t2_loop.trips) : Fin 2 → Nat :=
  let c0_i32_9 : BitVec 32 := 0#32
  let c1_i32_10 : BitVec 32 := 1#32
  let arg14 : BitVec 32 := Scf.iv c0_i32_9 c1_i32_10 k0_t2
  let v251 : Index := Scalar.indexCast arg14
  let c128 : Index := 128#32
  ![v251.toNat, 128]
def k0_mult39 (k0_t2 : Fin k0_t2_loop.trips) : BitVec 32 :=
  let c0_i32_9 : BitVec 32 := 0#32
  let c1_i32_10 : BitVec 32 := 1#32
  let arg14 : BitVec 32 := Scf.iv c0_i32_9 c1_i32_10 k0_t2
  let c64_i32_65 : BitVec 32 := 64#32
  let v257 : BitVec 32 := Scalar.muli arg14 c64_i32_65
  let c0_i32_66 : BitVec 32 := 0#32
  let v258 : BitVec 32 := Scalar.addi v257 c0_i32_66
  v258
def k0_mult40 (k0_t2 : Fin k0_t2_loop.trips) : BitVec 32 :=
  let c0_i32_9 : BitVec 32 := 0#32
  let c1_i32_10 : BitVec 32 := 1#32
  let arg14 : BitVec 32 := Scf.iv c0_i32_9 c1_i32_10 k0_t2
  let c32_i32_74 : BitVec 32 := 32#32
  let v308 : BitVec 32 := Scalar.muli arg14 c32_i32_74
  let c0_i32_75 : BitVec 32 := 0#32
  let v309 : BitVec 32 := Scalar.addi v308 c0_i32_75
  let c0_i32_76 : BitVec 32 := 0#32
  let v310 : BitVec 32 := Scalar.addi v309 c0_i32_76
  v310
def k0_off37 (k0_t2 : Fin k0_t2_loop.trips) (c0_i32_75 : BitVec 32) (c0_i32_76 : BitVec 32) : Fin 2 → Nat :=
  let c0_i32_9 : BitVec 32 := 0#32
  let c1_i32_10 : BitVec 32 := 1#32
  let arg14 : BitVec 32 := Scf.iv c0_i32_9 c1_i32_10 k0_t2
  let c32_i32_74 : BitVec 32 := 32#32
  let v308 : BitVec 32 := Scalar.muli arg14 c32_i32_74
  let v309 : BitVec 32 := Scalar.addi v308 c0_i32_75
  let v310 : BitVec 32 := Scalar.addi v309 c0_i32_76
  let v311 : BitVec 32 := v310
  let v312 : Index := Scalar.indexCast v311
  let c128_77 : Index := 128#32
  ![v312.toNat, 128]
def k0_mult41 (k0_t2 : Fin k0_t2_loop.trips) : BitVec 32 :=
  let c0_i32_9 : BitVec 32 := 0#32
  let c1_i32_10 : BitVec 32 := 1#32
  let arg14 : BitVec 32 := Scf.iv c0_i32_9 c1_i32_10 k0_t2
  let c32_i32_78 : BitVec 32 := 32#32
  let v316 : BitVec 32 := Scalar.muli arg14 c32_i32_78
  let c0_i32_79 : BitVec 32 := 0#32
  let v317 : BitVec 32 := Scalar.addi v316 c0_i32_79
  let c8_i32_80 : BitVec 32 := 8#32
  let v318 : BitVec 32 := Scalar.addi v317 c8_i32_80
  v318
def k0_mult42 (k0_t2 : Fin k0_t2_loop.trips) : BitVec 32 :=
  let c0_i32_9 : BitVec 32 := 0#32
  let c1_i32_10 : BitVec 32 := 1#32
  let arg14 : BitVec 32 := Scf.iv c0_i32_9 c1_i32_10 k0_t2
  let c64_i32_82 : BitVec 32 := 64#32
  let v324 : BitVec 32 := Scalar.muli arg14 c64_i32_82
  let c32_i32_83 : BitVec 32 := 32#32
  let v325 : BitVec 32 := Scalar.addi v324 c32_i32_83
  v325
def k0_mult43 (k0_t2 : Fin k0_t2_loop.trips) : BitVec 32 :=
  let c0_i32_9 : BitVec 32 := 0#32
  let c1_i32_10 : BitVec 32 := 1#32
  let arg14 : BitVec 32 := Scf.iv c0_i32_9 c1_i32_10 k0_t2
  let c32_i32_95 : BitVec 32 := 32#32
  let v375 : BitVec 32 := Scalar.muli arg14 c32_i32_95
  let c16_i32_96 : BitVec 32 := 16#32
  let v376 : BitVec 32 := Scalar.addi v375 c16_i32_96
  let c0_i32_97 : BitVec 32 := 0#32
  let v377 : BitVec 32 := Scalar.addi v376 c0_i32_97
  v377
def k0_mult44 (k0_t2 : Fin k0_t2_loop.trips) : BitVec 32 :=
  let c0_i32_9 : BitVec 32 := 0#32
  let c1_i32_10 : BitVec 32 := 1#32
  let arg14 : BitVec 32 := Scf.iv c0_i32_9 c1_i32_10 k0_t2
  let c32_i32_99 : BitVec 32 := 32#32
  let v383 : BitVec 32 := Scalar.muli arg14 c32_i32_99
  let c16_i32_100 : BitVec 32 := 16#32
  let v384 : BitVec 32 := Scalar.addi v383 c16_i32_100
  let c8_i32_101 : BitVec 32 := 8#32
  let v385 : BitVec 32 := Scalar.addi v384 c8_i32_101
  v385
def k0_off38 (k0_t2 : Fin k0_t2_loop.trips) : Fin 2 → Nat :=
  let c0_i32_9 : BitVec 32 := 0#32
  let c1_i32_10 : BitVec 32 := 1#32
  let arg14 : BitVec 32 := Scf.iv c0_i32_9 c1_i32_10 k0_t2
  let v391 : Index := Scalar.indexCast arg14
  let c256 : Index := 256#32
  ![v391.toNat, 256]
def k0_mult45 (k0_t2 : Fin k0_t2_loop.trips) : BitVec 32 :=
  let c0_i32_9 : BitVec 32 := 0#32
  let c1_i32_10 : BitVec 32 := 1#32
  let arg14 : BitVec 32 := Scf.iv c0_i32_9 c1_i32_10 k0_t2
  let c64_i32_105 : BitVec 32 := 64#32
  let v407 : BitVec 32 := Scalar.muli arg14 c64_i32_105
  let c0_i32_106 : BitVec 32 := 0#32
  let v408 : BitVec 32 := Scalar.addi v407 c0_i32_106
  v408
def k0_off39 (k0_t2 : Fin k0_t2_loop.trips) (c0_i32_106 : BitVec 32) : Fin 2 → Nat :=
  let c0_i32_9 : BitVec 32 := 0#32
  let c1_i32_10 : BitVec 32 := 1#32
  let arg14 : BitVec 32 := Scf.iv c0_i32_9 c1_i32_10 k0_t2
  let c64_i32_105 : BitVec 32 := 64#32
  let v407 : BitVec 32 := Scalar.muli arg14 c64_i32_105
  let v408 : BitVec 32 := Scalar.addi v407 c0_i32_106
  let v409 : BitVec 32 := v408
  let v410 : Index := Scalar.indexCast v409
  let c128_107 : Index := 128#32
  ![v410.toNat, 128]
def k0_mult46 (k0_t2 : Fin k0_t2_loop.trips) : BitVec 32 :=
  let c0_i32_9 : BitVec 32 := 0#32
  let c1_i32_10 : BitVec 32 := 1#32
  let arg14 : BitVec 32 := Scf.iv c0_i32_9 c1_i32_10 k0_t2
  let c32_i32_120 : BitVec 32 := 32#32
  let v490 : BitVec 32 := Scalar.muli arg14 c32_i32_120
  let c0_i32_121 : BitVec 32 := 0#32
  let v491 : BitVec 32 := Scalar.addi v490 c0_i32_121
  let c0_i32_122 : BitVec 32 := 0#32
  let v492 : BitVec 32 := Scalar.addi v491 c0_i32_122
  v492
def k0_off40 (k0_t2 : Fin k0_t2_loop.trips) (c0_i32_121 : BitVec 32) (c0_i32_122 : BitVec 32) : Fin 2 → Nat :=
  let c0_i32_9 : BitVec 32 := 0#32
  let c1_i32_10 : BitVec 32 := 1#32
  let arg14 : BitVec 32 := Scf.iv c0_i32_9 c1_i32_10 k0_t2
  let c32_i32_120 : BitVec 32 := 32#32
  let v490 : BitVec 32 := Scalar.muli arg14 c32_i32_120
  let v491 : BitVec 32 := Scalar.addi v490 c0_i32_121
  let v492 : BitVec 32 := Scalar.addi v491 c0_i32_122
  let v493 : BitVec 32 := v492
  let v494 : Index := Scalar.indexCast v493
  let c256_123 : Index := 256#32
  ![v494.toNat, 256]
def k0_mult47 (k0_t2 : Fin k0_t2_loop.trips) : BitVec 32 :=
  let c0_i32_9 : BitVec 32 := 0#32
  let c1_i32_10 : BitVec 32 := 1#32
  let arg14 : BitVec 32 := Scf.iv c0_i32_9 c1_i32_10 k0_t2
  let c32_i32_124 : BitVec 32 := 32#32
  let v498 : BitVec 32 := Scalar.muli arg14 c32_i32_124
  let c0_i32_125 : BitVec 32 := 0#32
  let v499 : BitVec 32 := Scalar.addi v498 c0_i32_125
  let c8_i32_126 : BitVec 32 := 8#32
  let v500 : BitVec 32 := Scalar.addi v499 c8_i32_126
  v500
def k0_mult48 (k0_t2 : Fin k0_t2_loop.trips) : BitVec 32 :=
  let c0_i32_9 : BitVec 32 := 0#32
  let c1_i32_10 : BitVec 32 := 1#32
  let arg14 : BitVec 32 := Scf.iv c0_i32_9 c1_i32_10 k0_t2
  let c64_i32_128 : BitVec 32 := 64#32
  let v506 : BitVec 32 := Scalar.muli arg14 c64_i32_128
  let c32_i32_129 : BitVec 32 := 32#32
  let v507 : BitVec 32 := Scalar.addi v506 c32_i32_129
  v507
def k0_mult49 (k0_t2 : Fin k0_t2_loop.trips) : BitVec 32 :=
  let c0_i32_9 : BitVec 32 := 0#32
  let c1_i32_10 : BitVec 32 := 1#32
  let arg14 : BitVec 32 := Scf.iv c0_i32_9 c1_i32_10 k0_t2
  let c32_i32_143 : BitVec 32 := 32#32
  let v589 : BitVec 32 := Scalar.muli arg14 c32_i32_143
  let c16_i32_144 : BitVec 32 := 16#32
  let v590 : BitVec 32 := Scalar.addi v589 c16_i32_144
  let c0_i32_145 : BitVec 32 := 0#32
  let v591 : BitVec 32 := Scalar.addi v590 c0_i32_145
  v591
def k0_mult50 (k0_t2 : Fin k0_t2_loop.trips) : BitVec 32 :=
  let c0_i32_9 : BitVec 32 := 0#32
  let c1_i32_10 : BitVec 32 := 1#32
  let arg14 : BitVec 32 := Scf.iv c0_i32_9 c1_i32_10 k0_t2
  let c32_i32_147 : BitVec 32 := 32#32
  let v597 : BitVec 32 := Scalar.muli arg14 c32_i32_147
  let c16_i32_148 : BitVec 32 := 16#32
  let v598 : BitVec 32 := Scalar.addi v597 c16_i32_148
  let c8_i32_149 : BitVec 32 := 8#32
  let v599 : BitVec 32 := Scalar.addi v598 c8_i32_149
  v599
def k0_off41 (k0_t2 : Fin k0_t2_loop.trips) : Fin 2 → Nat :=
  let c0_i32_9 : BitVec 32 := 0#32
  let c1_i32_10 : BitVec 32 := 1#32
  let arg14 : BitVec 32 := Scf.iv c0_i32_9 c1_i32_10 k0_t2
  let v605 : Index := Scalar.indexCast arg14
  let c384 : Index := 384#32
  ![v605.toNat, 384]
def k0_mult51 (k0_t2 : Fin k0_t2_loop.trips) : BitVec 32 :=
  let c0_i32_9 : BitVec 32 := 0#32
  let c1_i32_10 : BitVec 32 := 1#32
  let arg14 : BitVec 32 := Scf.iv c0_i32_9 c1_i32_10 k0_t2
  let c64_i32_151 : BitVec 32 := 64#32
  let v611 : BitVec 32 := Scalar.muli arg14 c64_i32_151
  let c0_i32_152 : BitVec 32 := 0#32
  let v612 : BitVec 32 := Scalar.addi v611 c0_i32_152
  v612
def k0_mult52 (k0_t2 : Fin k0_t2_loop.trips) : BitVec 32 :=
  let c0_i32_9 : BitVec 32 := 0#32
  let c1_i32_10 : BitVec 32 := 1#32
  let arg14 : BitVec 32 := Scf.iv c0_i32_9 c1_i32_10 k0_t2
  let c32_i32_164 : BitVec 32 := 32#32
  let v662 : BitVec 32 := Scalar.muli arg14 c32_i32_164
  let c0_i32_165 : BitVec 32 := 0#32
  let v663 : BitVec 32 := Scalar.addi v662 c0_i32_165
  let c0_i32_166 : BitVec 32 := 0#32
  let v664 : BitVec 32 := Scalar.addi v663 c0_i32_166
  v664
def k0_off42 (k0_t2 : Fin k0_t2_loop.trips) (c0_i32_165 : BitVec 32) (c0_i32_166 : BitVec 32) : Fin 2 → Nat :=
  let c0_i32_9 : BitVec 32 := 0#32
  let c1_i32_10 : BitVec 32 := 1#32
  let arg14 : BitVec 32 := Scf.iv c0_i32_9 c1_i32_10 k0_t2
  let c32_i32_164 : BitVec 32 := 32#32
  let v662 : BitVec 32 := Scalar.muli arg14 c32_i32_164
  let v663 : BitVec 32 := Scalar.addi v662 c0_i32_165
  let v664 : BitVec 32 := Scalar.addi v663 c0_i32_166
  let v665 : BitVec 32 := v664
  let v666 : Index := Scalar.indexCast v665
  let c384_167 : Index := 384#32
  ![v666.toNat, 384]
def k0_mult53 (k0_t2 : Fin k0_t2_loop.trips) : BitVec 32 :=
  let c0_i32_9 : BitVec 32 := 0#32
  let c1_i32_10 : BitVec 32 := 1#32
  let arg14 : BitVec 32 := Scf.iv c0_i32_9 c1_i32_10 k0_t2
  let c32_i32_168 : BitVec 32 := 32#32
  let v670 : BitVec 32 := Scalar.muli arg14 c32_i32_168
  let c0_i32_169 : BitVec 32 := 0#32
  let v671 : BitVec 32 := Scalar.addi v670 c0_i32_169
  let c8_i32_170 : BitVec 32 := 8#32
  let v672 : BitVec 32 := Scalar.addi v671 c8_i32_170
  v672
def k0_mult54 (k0_t2 : Fin k0_t2_loop.trips) : BitVec 32 :=
  let c0_i32_9 : BitVec 32 := 0#32
  let c1_i32_10 : BitVec 32 := 1#32
  let arg14 : BitVec 32 := Scf.iv c0_i32_9 c1_i32_10 k0_t2
  let c64_i32_172 : BitVec 32 := 64#32
  let v678 : BitVec 32 := Scalar.muli arg14 c64_i32_172
  let c32_i32_173 : BitVec 32 := 32#32
  let v679 : BitVec 32 := Scalar.addi v678 c32_i32_173
  v679
def k0_mult55 (k0_t2 : Fin k0_t2_loop.trips) : BitVec 32 :=
  let c0_i32_9 : BitVec 32 := 0#32
  let c1_i32_10 : BitVec 32 := 1#32
  let arg14 : BitVec 32 := Scf.iv c0_i32_9 c1_i32_10 k0_t2
  let c32_i32_185 : BitVec 32 := 32#32
  let v729 : BitVec 32 := Scalar.muli arg14 c32_i32_185
  let c16_i32_186 : BitVec 32 := 16#32
  let v730 : BitVec 32 := Scalar.addi v729 c16_i32_186
  let c0_i32_187 : BitVec 32 := 0#32
  let v731 : BitVec 32 := Scalar.addi v730 c0_i32_187
  v731
def k0_mult56 (k0_t2 : Fin k0_t2_loop.trips) : BitVec 32 :=
  let c0_i32_9 : BitVec 32 := 0#32
  let c1_i32_10 : BitVec 32 := 1#32
  let arg14 : BitVec 32 := Scf.iv c0_i32_9 c1_i32_10 k0_t2
  let c32_i32_189 : BitVec 32 := 32#32
  let v737 : BitVec 32 := Scalar.muli arg14 c32_i32_189
  let c16_i32_190 : BitVec 32 := 16#32
  let v738 : BitVec 32 := Scalar.addi v737 c16_i32_190
  let c8_i32_191 : BitVec 32 := 8#32
  let v739 : BitVec 32 := Scalar.addi v738 c8_i32_191
  v739
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
abbrev S2x256x2048 : Shape := ⟨3, ![2, 256, 2048]⟩
abbrev S2048x3584 : Shape := ⟨2, ![2048, 3584]⟩
abbrev S32x7168 : Shape := ⟨2, ![32, 7168]⟩
abbrev S2048x16 : Shape := ⟨2, ![2048, 16]⟩
abbrev S16x7168 : Shape := ⟨2, ![16, 7168]⟩
abbrev S16 : Shape := ⟨1, ![16]⟩
abbrev S_ : Shape := ⟨0, ![]⟩
abbrev S8 : Shape := ⟨1, ![8]⟩
abbrev S8x1 : Shape := ⟨2, ![8, 1]⟩
abbrev S8x128 : Shape := ⟨2, ![8, 128]⟩
abbrev S128 : Shape := ⟨1, ![128]⟩
abbrev S128x1 : Shape := ⟨2, ![128, 1]⟩
abbrev S1x128 : Shape := ⟨2, ![1, 128]⟩
abbrev S512x2048 : Shape := ⟨2, ![512, 2048]⟩
abbrev S512x7168 : Shape := ⟨2, ![512, 7168]⟩
abbrev S2048x256 : Shape := ⟨2, ![2048, 256]⟩
abbrev S32x512 : Shape := ⟨2, ![32, 512]⟩
abbrev S16x512 : Shape := ⟨2, ![16, 512]⟩
abbrev S512x512 : Shape := ⟨2, ![512, 512]⟩
abbrev S256x2048 : Shape := ⟨2, ![256, 2048]⟩
abbrev S256x2x2048 : Shape := ⟨3, ![256, 2, 2048]⟩
abbrev S256x1x2048 : Shape := ⟨3, ![256, 1, 2048]⟩
abbrev S512x32 : Shape := ⟨2, ![512, 32]⟩
abbrev S1024x512 : Shape := ⟨2, ![1024, 512]⟩
abbrev S1024x2x512 : Shape := ⟨3, ![1024, 2, 512]⟩
abbrev S1024x1x512 : Shape := ⟨3, ![1024, 1, 512]⟩
abbrev S16x128 : Shape := ⟨2, ![16, 128]⟩
abbrev S8x128x1 : Shape := ⟨3, ![8, 128, 1]⟩
abbrev S8x2x128 : Shape := ⟨3, ![8, 2, 128]⟩
abbrev S8x1x128 : Shape := ⟨3, ![8, 1, 128]⟩
abbrev S512x16 : Shape := ⟨2, ![512, 16]⟩
abbrev S32x128 : Shape := ⟨2, ![32, 128]⟩
abbrev S2048x512 : Shape := ⟨2, ![2048, 512]⟩

abbrev nBuf : Space → Nat
  | .hbm => 91
  | .vmem => 17
  | .smem => 0
  | _ => 0

abbrev bufTy : (tb : Table) → Fin (tcTables nBuf tb) → BufTy
  | .hbm, ⟨0, _⟩ => ⟨S2x256x2048, .bf16⟩
  | .hbm, ⟨1, _⟩ => ⟨S2048x3584, .i8⟩
  | .hbm, ⟨2, _⟩ => ⟨S32x7168, .f32⟩
  | .hbm, ⟨3, _⟩ => ⟨S2048x16, .bf16⟩
  | .hbm, ⟨4, _⟩ => ⟨S16x7168, .bf16⟩
  | .hbm, ⟨5, _⟩ => ⟨S16, .i16⟩
  | .hbm, ⟨6, _⟩ => ⟨S16, .i32⟩
  | .hbm, ⟨7, _⟩ => ⟨S16, .i32⟩
  | .hbm, ⟨8, _⟩ => ⟨S_, .i32⟩
  | .hbm, ⟨9, _⟩ => ⟨S16, .i32⟩
  | .hbm, ⟨10, _⟩ => ⟨S16, .i32⟩
  | .hbm, ⟨11, _⟩ => ⟨S16, .i32⟩
  | .hbm, ⟨12, _⟩ => ⟨S16, .i32⟩
  | .hbm, ⟨13, _⟩ => ⟨S8, .i32⟩
  | .hbm, ⟨14, _⟩ => ⟨S8x1, .i32⟩
  | .hbm, ⟨15, _⟩ => ⟨S8x128, .i32⟩
  | .hbm, ⟨16, _⟩ => ⟨S8, .i32⟩
  | .hbm, ⟨17, _⟩ => ⟨S8x1, .i32⟩
  | .hbm, ⟨18, _⟩ => ⟨S8x128, .i32⟩
  | .hbm, ⟨19, _⟩ => ⟨S128, .i32⟩
  | .hbm, ⟨20, _⟩ => ⟨S_, .i32⟩
  | .hbm, ⟨21, _⟩ => ⟨S128, .i32⟩
  | .hbm, ⟨22, _⟩ => ⟨S128, .i32⟩
  | .hbm, ⟨23, _⟩ => ⟨S_, .i32⟩
  | .hbm, ⟨24, _⟩ => ⟨S128, .i32⟩
  | .hbm, ⟨25, _⟩ => ⟨S128, .i1⟩
  | .hbm, ⟨26, _⟩ => ⟨S_, .i32⟩
  | .hbm, ⟨27, _⟩ => ⟨S128, .i32⟩
  | .hbm, ⟨28, _⟩ => ⟨S128, .i32⟩
  | .hbm, ⟨29, _⟩ => ⟨S128, .i32⟩
  | .hbm, ⟨30, _⟩ => ⟨S128x1, .i32⟩
  | .hbm, ⟨31, _⟩ => ⟨S128, .i16⟩
  | .hbm, ⟨32, _⟩ => ⟨S_, .i32⟩
  | .hbm, ⟨33, _⟩ => ⟨S128, .i32⟩
  | .hbm, ⟨34, _⟩ => ⟨S128, .i32⟩
  | .hbm, ⟨35, _⟩ => ⟨S_, .i32⟩
  | .hbm, ⟨36, _⟩ => ⟨S128, .i32⟩
  | .hbm, ⟨37, _⟩ => ⟨S128, .i1⟩
  | .hbm, ⟨38, _⟩ => ⟨S_, .i32⟩
  | .hbm, ⟨39, _⟩ => ⟨S128, .i32⟩
  | .hbm, ⟨40, _⟩ => ⟨S128, .i32⟩
  | .hbm, ⟨41, _⟩ => ⟨S128, .i32⟩
  | .hbm, ⟨42, _⟩ => ⟨S128x1, .i32⟩
  | .hbm, ⟨43, _⟩ => ⟨S128, .i16⟩
  | .hbm, ⟨44, _⟩ => ⟨S128, .i32⟩
  | .hbm, ⟨45, _⟩ => ⟨S128, .i32⟩
  | .hbm, ⟨46, _⟩ => ⟨S_, .i32⟩
  | .hbm, ⟨47, _⟩ => ⟨S128, .i32⟩
  | .hbm, ⟨48, _⟩ => ⟨S128, .i32⟩
  | .hbm, ⟨49, _⟩ => ⟨S128, .i32⟩
  | .hbm, ⟨50, _⟩ => ⟨S128, .i32⟩
  | .hbm, ⟨51, _⟩ => ⟨S1x128, .i32⟩
  | .hbm, ⟨52, _⟩ => ⟨S8x128, .i32⟩
  | .hbm, ⟨53, _⟩ => ⟨S_, .i32⟩
  | .hbm, ⟨54, _⟩ => ⟨S128, .i32⟩
  | .hbm, ⟨55, _⟩ => ⟨S128, .i32⟩
  | .hbm, ⟨56, _⟩ => ⟨S_, .i32⟩
  | .hbm, ⟨57, _⟩ => ⟨S128, .i32⟩
  | .hbm, ⟨58, _⟩ => ⟨S128, .i1⟩
  | .hbm, ⟨59, _⟩ => ⟨S_, .i32⟩
  | .hbm, ⟨60, _⟩ => ⟨S128, .i32⟩
  | .hbm, ⟨61, _⟩ => ⟨S128, .i32⟩
  | .hbm, ⟨62, _⟩ => ⟨S128, .i32⟩
  | .hbm, ⟨63, _⟩ => ⟨S128x1, .i32⟩
  | .hbm, ⟨64, _⟩ => ⟨S128, .i16⟩
  | .hbm, ⟨65, _⟩ => ⟨S_, .i32⟩
  | .hbm, ⟨66, _⟩ => ⟨S128, .i32⟩
  | .hbm, ⟨67, _⟩ => ⟨S128, .i32⟩
  | .hbm, ⟨68, _⟩ => ⟨S_, .i32⟩
  | .hbm, ⟨69, _⟩ => ⟨S128, .i32⟩
  | .hbm, ⟨70, _⟩ => ⟨S128, .i32⟩
  | .hbm, ⟨71, _⟩ => ⟨S_, .i32⟩
  | .hbm, ⟨72, _⟩ => ⟨S128, .i32⟩
  | .hbm, ⟨73, _⟩ => ⟨S128, .i1⟩
  | .hbm, ⟨74, _⟩ => ⟨S_, .i32⟩
  | .hbm, ⟨75, _⟩ => ⟨S128, .i32⟩
  | .hbm, ⟨76, _⟩ => ⟨S128, .i32⟩
  | .hbm, ⟨77, _⟩ => ⟨S128, .i32⟩
  | .hbm, ⟨78, _⟩ => ⟨S128x1, .i32⟩
  | .hbm, ⟨79, _⟩ => ⟨S128, .i16⟩
  | .hbm, ⟨80, _⟩ => ⟨S128, .i32⟩
  | .hbm, ⟨81, _⟩ => ⟨S128, .i32⟩
  | .hbm, ⟨82, _⟩ => ⟨S_, .i32⟩
  | .hbm, ⟨83, _⟩ => ⟨S128, .i32⟩
  | .hbm, ⟨84, _⟩ => ⟨S128, .i32⟩
  | .hbm, ⟨85, _⟩ => ⟨S128, .i32⟩
  | .hbm, ⟨86, _⟩ => ⟨S128, .i32⟩
  | .hbm, ⟨87, _⟩ => ⟨S1x128, .i32⟩
  | .hbm, ⟨88, _⟩ => ⟨S8x128, .i32⟩
  | .hbm, ⟨89, _⟩ => ⟨S512x2048, .bf16⟩
  | .hbm, ⟨90, _⟩ => ⟨S512x7168, .bf16⟩
  | .local _ .vmem, ⟨0, _⟩ => ⟨S512x2048, .bf16⟩
  | .local _ .vmem, ⟨1, _⟩ => ⟨S2048x256, .i8⟩
  | .local _ .vmem, ⟨2, _⟩ => ⟨S2048x256, .i8⟩
  | .local _ .vmem, ⟨3, _⟩ => ⟨S32x512, .f32⟩
  | .local _ .vmem, ⟨4, _⟩ => ⟨S32x512, .f32⟩
  | .local _ .vmem, ⟨5, _⟩ => ⟨S2048x16, .bf16⟩
  | .local _ .vmem, ⟨6, _⟩ => ⟨S16x512, .bf16⟩
  | .local _ .vmem, ⟨7, _⟩ => ⟨S16x512, .bf16⟩
  | .local _ .vmem, ⟨8, _⟩ => ⟨S8x128, .i32⟩
  | .local _ .vmem, ⟨9, _⟩ => ⟨S8x128, .i32⟩
  | .local _ .vmem, ⟨10, _⟩ => ⟨S8x128, .i32⟩
  | .local _ .vmem, ⟨11, _⟩ => ⟨S8x128, .i32⟩
  | .local _ .vmem, ⟨12, _⟩ => ⟨S512x512, .bf16⟩
  | .local _ .vmem, ⟨13, _⟩ => ⟨S512x512, .bf16⟩
  | .local _ .vmem, ⟨14, _⟩ => ⟨S256x2x2048, .bf16⟩
  | .local _ .vmem, ⟨15, _⟩ => ⟨S512x32, .bf16⟩
  | .local _ .vmem, ⟨16, _⟩ => ⟨S1024x2x512, .bf16⟩
  | _, _ => ⟨S2x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_c_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_c_5 : Ref sig .tc := ⟨.hbm, 35, rfl⟩
abbrev main_v24 : Ref sig .tc := ⟨.hbm, 36, rfl⟩
abbrev main_v25 : Ref sig .tc := ⟨.hbm, 37, rfl⟩
abbrev main_c_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_8 : Ref sig .tc := ⟨.hbm, 53, rfl⟩
abbrev main_v39 : Ref sig .tc := ⟨.hbm, 54, rfl⟩
abbrev main_v40 : Ref sig .tc := ⟨.hbm, 55, rfl⟩
abbrev main_c_9 : Ref sig .tc := ⟨.hbm, 56, rfl⟩
abbrev main_v41 : Ref sig .tc := ⟨.hbm, 57, rfl⟩
abbrev main_v42 : Ref sig .tc := ⟨.hbm, 58, rfl⟩
abbrev main_c_10 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_11 : Ref sig .tc := ⟨.hbm, 65, rfl⟩
abbrev main_v48 : Ref sig .tc := ⟨.hbm, 66, rfl⟩
abbrev main_v49 : Ref sig .tc := ⟨.hbm, 67, rfl⟩
abbrev main_c_12 : Ref sig .tc := ⟨.hbm, 68, rfl⟩
abbrev main_v50 : Ref sig .tc := ⟨.hbm, 69, rfl⟩
abbrev main_v51 : Ref sig .tc := ⟨.hbm, 70, rfl⟩
abbrev main_c_13 : Ref sig .tc := ⟨.hbm, 71, rfl⟩
abbrev main_v52 : Ref sig .tc := ⟨.hbm, 72, rfl⟩
abbrev main_v53 : Ref sig .tc := ⟨.hbm, 73, rfl⟩
abbrev main_c_14 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_15 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![14], ![false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

@[reducible] def k0_t1_loop : Scf.Loop 32 :=
  let c0_i32_27 : BitVec 32 := 0#32
  let c32_i32_28 : BitVec 32 := 32#32
  let v56 : BitVec 32 := Scalar.addi c0_i32_27 c32_i32_28
  let c1_i32_29 : BitVec 32 := 1#32
  ⟨c0_i32_27, v56, c1_i32_29⟩
def k0_mult1 (k0_t1 : Fin k0_t1_loop.trips) : BitVec 32 :=
  let c0_i32_27 : BitVec 32 := 0#32
  let c1_i32_29 : BitVec 32 := 1#32
  let arg14 : BitVec 32 := Scf.iv c0_i32_27 c1_i32_29 k0_t1
  let c16_i32 : BitVec 32 := 16#32
  let v66 : BitVec 32 := Scalar.muli arg14 c16_i32
  v66
def k0_off1 (k0_t1 : Fin k0_t1_loop.trips) : Fin 2 → Nat :=
  let c0_i32_27 : BitVec 32 := 0#32
  let c1_i32_29 : BitVec 32 := 1#32
  let arg14 : BitVec 32 := Scf.iv c0_i32_27 c1_i32_29 k0_t1
  let c16_i32 : BitVec 32 := 16#32
  let v66 : BitVec 32 := Scalar.muli arg14 c16_i32
  let v67 : BitVec 32 := v66
  let v68 : Index := Scalar.indexCast v67
  let c0_38 : Index := 0#32
  ![v68.toNat, 0]
def k0_mult2 (k0_t1 : Fin k0_t1_loop.trips) : BitVec 32 :=
  let c0_i32_27 : BitVec 32 := 0#32
  let c1_i32_29 : BitVec 32 := 1#32
  let arg14 : BitVec 32 := Scf.iv c0_i32_27 c1_i32_29 k0_t1
  let c8_i32 : BitVec 32 := 8#32
  let v85 : BitVec 32 := Scalar.muli arg14 c8_i32
  v85
def k0_off2 (k0_t1 : Fin k0_t1_loop.trips) : Fin 3 → Nat :=
  let c0_i32_27 : BitVec 32 := 0#32
  let c1_i32_29 : BitVec 32 := 1#32
  let arg14 : BitVec 32 := Scf.iv c0_i32_27 c1_i32_29 k0_t1
  let c8_i32 : BitVec 32 := 8#32
  let v85 : BitVec 32 := Scalar.muli arg14 c8_i32
  let v86 : BitVec 32 := v85
  let v87 : Index := Scalar.indexCast v86
  let c0_40 : Index := 0#32
  ![v87.toNat, 0, 0]
def k0_mult3 (k0_t1 : Fin k0_t1_loop.trips) : BitVec 32 :=
  let c0_i32_27 : BitVec 32 := 0#32
  let c1_i32_29 : BitVec 32 := 1#32
  let arg14 : BitVec 32 := Scf.iv c0_i32_27 c1_i32_29 k0_t1
  let c16_i32_41 : BitVec 32 := 16#32
  let v91 : BitVec 32 := Scalar.muli arg14 c16_i32_41
  v91
def k0_off3 (k0_t1 : Fin k0_t1_loop.trips) : Fin 2 → Nat :=
  let c0_i32_27 : BitVec 32 := 0#32
  let c1_i32_29 : BitVec 32 := 1#32
  let arg14 : BitVec 32 := Scf.iv c0_i32_27 c1_i32_29 k0_t1
  let c16_i32_41 : BitVec 32 := 16#32
  let v91 : BitVec 32 := Scalar.muli arg14 c16_i32_41
  let v92 : BitVec 32 := v91
  let v93 : Index := Scalar.indexCast v92
  let c128 : Index := 128#32
  ![v93.toNat, 128]
def k0_mult4 (k0_t1 : Fin k0_t1_loop.trips) : BitVec 32 :=
  let c0_i32_27 : BitVec 32 := 0#32
  let c1_i32_29 : BitVec 32 := 1#32
  let arg14 : BitVec 32 := Scf.iv c0_i32_27 c1_i32_29 k0_t1
  let c8_i32_44 : BitVec 32 := 8#32
  let v110 : BitVec 32 := Scalar.muli arg14 c8_i32_44
  v110
def k0_off4 (k0_t1 : Fin k0_t1_loop.trips) : Fin 3 → Nat :=
  let c0_i32_27 : BitVec 32 := 0#32
  let c1_i32_29 : BitVec 32 := 1#32
  let arg14 : BitVec 32 := Scf.iv c0_i32_27 c1_i32_29 k0_t1
  let c8_i32_44 : BitVec 32 := 8#32
  let v110 : BitVec 32 := Scalar.muli arg14 c8_i32_44
  let v111 : BitVec 32 := v110
  let v112 : Index := Scalar.indexCast v111
  let c128_45 : Index := 128#32
  ![v112.toNat, 0, 128]
def k0_mult5 (k0_t1 : Fin k0_t1_loop.trips) : BitVec 32 :=
  let c0_i32_27 : BitVec 32 := 0#32
  let c1_i32_29 : BitVec 32 := 1#32
  let arg14 : BitVec 32 := Scf.iv c0_i32_27 c1_i32_29 k0_t1
  let c16_i32_46 : BitVec 32 := 16#32
  let v116 : BitVec 32 := Scalar.muli arg14 c16_i32_46
  v116
def k0_off5 (k0_t1 : Fin k0_t1_loop.trips) : Fin 2 → Nat :=
  let c0_i32_27 : BitVec 32 := 0#32
  let c1_i32_29 : BitVec 32 := 1#32
  let arg14 : BitVec 32 := Scf.iv c0_i32_27 c1_i32_29 k0_t1
  let c16_i32_46 : BitVec 32 := 16#32
  let v116 : BitVec 32 := Scalar.muli arg14 c16_i32_46
  let v117 : BitVec 32 := v116
  let v118 : Index := Scalar.indexCast v117
  let c256 : Index := 256#32
  ![v118.toNat, 256]
def k0_mult6 (k0_t1 : Fin k0_t1_loop.trips) : BitVec 32 :=
  let c0_i32_27 : BitVec 32 := 0#32
  let c1_i32_29 : BitVec 32 := 1#32
  let arg14 : BitVec 32 := Scf.iv c0_i32_27 c1_i32_29 k0_t1
  let c8_i32_49 : BitVec 32 := 8#32
  let v135 : BitVec 32 := Scalar.muli arg14 c8_i32_49
  v135
def k0_off6 (k0_t1 : Fin k0_t1_loop.trips) : Fin 3 → Nat :=
  let c0_i32_27 : BitVec 32 := 0#32
  let c1_i32_29 : BitVec 32 := 1#32
  let arg14 : BitVec 32 := Scf.iv c0_i32_27 c1_i32_29 k0_t1
  let c8_i32_49 : BitVec 32 := 8#32
  let v135 : BitVec 32 := Scalar.muli arg14 c8_i32_49
  let v136 : BitVec 32 := v135
  let v137 : Index := Scalar.indexCast v136
  let c256_50 : Index := 256#32
  ![v137.toNat, 0, 256]
def k0_mult7 (k0_t1 : Fin k0_t1_loop.trips) : BitVec 32 :=
  let c0_i32_27 : BitVec 32 := 0#32
  let c1_i32_29 : BitVec 32 := 1#32
  let arg14 : BitVec 32 := Scf.iv c0_i32_27 c1_i32_29 k0_t1
  let c16_i32_51 : BitVec 32 := 16#32
  let v141 : BitVec 32 := Scalar.muli arg14 c16_i32_51
  v141
def k0_off7 (k0_t1 : Fin k0_t1_loop.trips) : Fin 2 → Nat :=
  let c0_i32_27 : BitVec 32 := 0#32
  let c1_i32_29 : BitVec 32 := 1#32
  let arg14 : BitVec 32 := Scf.iv c0_i32_27 c1_i32_29 k0_t1
  let c16_i32_51 : BitVec 32 := 16#32
  let v141 : BitVec 32 := Scalar.muli arg14 c16_i32_51
  let v142 : BitVec 32 := v141
  let v143 : Index := Scalar.indexCast v142
  let c384 : Index := 384#32
  ![v143.toNat, 384]
def k0_mult8 (k0_t1 : Fin k0_t1_loop.trips) : BitVec 32 :=
  let c0_i32_27 : BitVec 32 := 0#32
  let c1_i32_29 : BitVec 32 := 1#32
  let arg14 : BitVec 32 := Scf.iv c0_i32_27 c1_i32_29 k0_t1
  let c8_i32_54 : BitVec 32 := 8#32
  let v160 : BitVec 32 := Scalar.muli arg14 c8_i32_54
  v160
def k0_off8 (k0_t1 : Fin k0_t1_loop.trips) : Fin 3 → Nat :=
  let c0_i32_27 : BitVec 32 := 0#32
  let c1_i32_29 : BitVec 32 := 1#32
  let arg14 : BitVec 32 := Scf.iv c0_i32_27 c1_i32_29 k0_t1
  let c8_i32_54 : BitVec 32 := 8#32
  let v160 : BitVec 32 := Scalar.muli arg14 c8_i32_54
  let v161 : BitVec 32 := v160
  let v162 : Index := Scalar.indexCast v161
  let c384_55 : Index := 384#32
  ![v162.toNat, 0, 384]
def k0_mult9 (k0_t1 : Fin k0_t1_loop.trips) : BitVec 32 :=
  let c0_i32_27 : BitVec 32 := 0#32
  let c1_i32_29 : BitVec 32 := 1#32
  let arg14 : BitVec 32 := Scf.iv c0_i32_27 c1_i32_29 k0_t1
  let c16_i32_56 : BitVec 32 := 16#32
  let v166 : BitVec 32 := Scalar.muli arg14 c16_i32_56
  v166
def k0_off9 (k0_t1 : Fin k0_t1_loop.trips) : Fin 2 → Nat :=
  let c0_i32_27 : BitVec 32 := 0#32
  let c1_i32_29 : BitVec 32 := 1#32
  let arg14 : BitVec 32 := Scf.iv c0_i32_27 c1_i32_29 k0_t1
  let c16_i32_56 : BitVec 32 := 16#32
  let v166 : BitVec 32 := Scalar.muli arg14 c16_i32_56
  let v167 : BitVec 32 := v166
  let v168 : Index := Scalar.indexCast v167
  let c512 : Index := 512#32
  ![v168.toNat, 512]
def k0_mult10 (k0_t1 : Fin k0_t1_loop.trips) : BitVec 32 :=
  let c0_i32_27 : BitVec 32 := 0#32
  let c1_i32_29 : BitVec 32 := 1#32
  let arg14 : BitVec 32 := Scf.iv c0_i32_27 c1_i32_29 k0_t1
  let c8_i32_59 : BitVec 32 := 8#32
  let v185 : BitVec 32 := Scalar.muli arg14 c8_i32_59
  v185
def k0_off10 (k0_t1 : Fin k0_t1_loop.trips) : Fin 3 → Nat :=
  let c0_i32_27 : BitVec 32 := 0#32
  let c1_i32_29 : BitVec 32 := 1#32
  let arg14 : BitVec 32 := Scf.iv c0_i32_27 c1_i32_29 k0_t1
  let c8_i32_59 : BitVec 32 := 8#32
  let v185 : BitVec 32 := Scalar.muli arg14 c8_i32_59
  let v186 : BitVec 32 := v185
  let v187 : Index := Scalar.indexCast v186
  let c512_60 : Index := 512#32
  ![v187.toNat, 0, 512]
def k0_mult11 (k0_t1 : Fin k0_t1_loop.trips) : BitVec 32 :=
  let c0_i32_27 : BitVec 32 := 0#32
  let c1_i32_29 : BitVec 32 := 1#32
  let arg14 : BitVec 32 := Scf.iv c0_i32_27 c1_i32_29 k0_t1
  let c16_i32_61 : BitVec 32 := 16#32
  let v191 : BitVec 32 := Scalar.muli arg14 c16_i32_61
  v191
def k0_off11 (k0_t1 : Fin k0_t1_loop.trips) : Fin 2 → Nat :=
  let c0_i32_27 : BitVec 32 := 0#32
  let c1_i32_29 : BitVec 32 := 1#32
  let arg14 : BitVec 32 := Scf.iv c0_i32_27 c1_i32_29 k0_t1
  let c16_i32_61 : BitVec 32 := 16#32
  let v191 : BitVec 32 := Scalar.muli arg14 c16_i32_61
  let v192 : BitVec 32 := v191
  let v193 : Index := Scalar.indexCast v192
  let c640 : Index := 640#32
  ![v193.toNat, 640]
def k0_mult12 (k0_t1 : Fin k0_t1_loop.trips) : BitVec 32 :=
  let c0_i32_27 : BitVec 32 := 0#32
  let c1_i32_29 : BitVec 32 := 1#32
  let arg14 : BitVec 32 := Scf.iv c0_i32_27 c1_i32_29 k0_t1
  let c8_i32_64 : BitVec 32 := 8#32
  let v210 : BitVec 32 := Scalar.muli arg14 c8_i32_64
  v210
def k0_off12 (k0_t1 : Fin k0_t1_loop.trips) : Fin 3 → Nat :=
  let c0_i32_27 : BitVec 32 := 0#32
  let c1_i32_29 : BitVec 32 := 1#32
  let arg14 : BitVec 32 := Scf.iv c0_i32_27 c1_i32_29 k0_t1
  let c8_i32_64 : BitVec 32 := 8#32
  let v210 : BitVec 32 := Scalar.muli arg14 c8_i32_64
  let v211 : BitVec 32 := v210
  let v212 : Index := Scalar.indexCast v211
  let c640_65 : Index := 640#32
  ![v212.toNat, 0, 640]
def k0_mult13 (k0_t1 : Fin k0_t1_loop.trips) : BitVec 32 :=
  let c0_i32_27 : BitVec 32 := 0#32
  let c1_i32_29 : BitVec 32 := 1#32
  let arg14 : BitVec 32 := Scf.iv c0_i32_27 c1_i32_29 k0_t1
  let c16_i32_66 : BitVec 32 := 16#32
  let v216 : BitVec 32 := Scalar.muli arg14 c16_i32_66
  v216
def k0_off13 (k0_t1 : Fin k0_t1_loop.trips) : Fin 2 → Nat :=
  let c0_i32_27 : BitVec 32 := 0#32
  let c1_i32_29 : BitVec 32 := 1#32
  let arg14 : BitVec 32 := Scf.iv c0_i32_27 c1_i32_29 k0_t1
  let c16_i32_66 : BitVec 32 := 16#32
  let v216 : BitVec 32 := Scalar.muli arg14 c16_i32_66
  let v217 : BitVec 32 := v216
  let v218 : Index := Scalar.indexCast v217
  let c768 : Index := 768#32
  ![v218.toNat, 768]
def k0_mult14 (k0_t1 : Fin k0_t1_loop.trips) : BitVec 32 :=
  let c0_i32_27 : BitVec 32 := 0#32
  let c1_i32_29 : BitVec 32 := 1#32
  let arg14 : BitVec 32 := Scf.iv c0_i32_27 c1_i32_29 k0_t1
  let c8_i32_69 : BitVec 32 := 8#32
  let v235 : BitVec 32 := Scalar.muli arg14 c8_i32_69
  v235
def k0_off14 (k0_t1 : Fin k0_t1_loop.trips) : Fin 3 → Nat :=
  let c0_i32_27 : BitVec 32 := 0#32
  let c1_i32_29 : BitVec 32 := 1#32
  let arg14 : BitVec 32 := Scf.iv c0_i32_27 c1_i32_29 k0_t1
  let c8_i32_69 : BitVec 32 := 8#32
  let v235 : BitVec 32 := Scalar.muli arg14 c8_i32_69
  let v236 : BitVec 32 := v235
  let v237 : Index := Scalar.indexCast v236
  let c768_70 : Index := 768#32
  ![v237.toNat, 0, 768]
def k0_mult15 (k0_t1 : Fin k0_t1_loop.trips) : BitVec 32 :=
  let c0_i32_27 : BitVec 32 := 0#32
  let c1_i32_29 : BitVec 32 := 1#32
  let arg14 : BitVec 32 := Scf.iv c0_i32_27 c1_i32_29 k0_t1
  let c16_i32_71 : BitVec 32 := 16#32
  let v241 : BitVec 32 := Scalar.muli arg14 c16_i32_71
  v241
def k0_off15 (k0_t1 : Fin k0_t1_loop.trips) : Fin 2 → Nat :=
  let c0_i32_27 : BitVec 32 := 0#32
  let c1_i32_29 : BitVec 32 := 1#32
  let arg14 : BitVec 32 := Scf.iv c0_i32_27 c1_i32_29 k0_t1
  let c16_i32_71 : BitVec 32 := 16#32
  let v241 : BitVec 32 := Scalar.muli arg14 c16_i32_71
  let v242 : BitVec 32 := v241
  let v243 : Index := Scalar.indexCast v242
  let c896 : Index := 896#32
  ![v243.toNat, 896]
def k0_mult16 (k0_t1 : Fin k0_t1_loop.trips) : BitVec 32 :=
  let c0_i32_27 : BitVec 32 := 0#32
  let c1_i32_29 : BitVec 32 := 1#32
  let arg14 : BitVec 32 := Scf.iv c0_i32_27 c1_i32_29 k0_t1
  let c8_i32_74 : BitVec 32 := 8#32
  let v260 : BitVec 32 := Scalar.muli arg14 c8_i32_74
  v260
def k0_off16 (k0_t1 : Fin k0_t1_loop.trips) : Fin 3 → Nat :=
  let c0_i32_27 : BitVec 32 := 0#32
  let c1_i32_29 : BitVec 32 := 1#32
  let arg14 : BitVec 32 := Scf.iv c0_i32_27 c1_i32_29 k0_t1
  let c8_i32_74 : BitVec 32 := 8#32
  let v260 : BitVec 32 := Scalar.muli arg14 c8_i32_74
  let v261 : BitVec 32 := v260
  let v262 : Index := Scalar.indexCast v261
  let c896_75 : Index := 896#32
  ![v262.toNat, 0, 896]
def k0_mult17 (k0_t1 : Fin k0_t1_loop.trips) : BitVec 32 :=
  let c0_i32_27 : BitVec 32 := 0#32
  let c1_i32_29 : BitVec 32 := 1#32
  let arg14 : BitVec 32 := Scf.iv c0_i32_27 c1_i32_29 k0_t1
  let c16_i32_76 : BitVec 32 := 16#32
  let v266 : BitVec 32 := Scalar.muli arg14 c16_i32_76
  v266
def k0_off17 (k0_t1 : Fin k0_t1_loop.trips) : Fin 2 → Nat :=
  let c0_i32_27 : BitVec 32 := 0#32
  let c1_i32_29 : BitVec 32 := 1#32
  let arg14 : BitVec 32 := Scf.iv c0_i32_27 c1_i32_29 k0_t1
  let c16_i32_76 : BitVec 32 := 16#32
  let v266 : BitVec 32 := Scalar.muli arg14 c16_i32_76
  let v267 : BitVec 32 := v266
  let v268 : Index := Scalar.indexCast v267
  let c1024 : Index := 1024#32
  ![v268.toNat, 1024]
def k0_mult18 (k0_t1 : Fin k0_t1_loop.trips) : BitVec 32 :=
  let c0_i32_27 : BitVec 32 := 0#32
  let c1_i32_29 : BitVec 32 := 1#32
  let arg14 : BitVec 32 := Scf.iv c0_i32_27 c1_i32_29 k0_t1
  let c8_i32_79 : BitVec 32 := 8#32
  let v285 : BitVec 32 := Scalar.muli arg14 c8_i32_79
  v285
def k0_off18 (k0_t1 : Fin k0_t1_loop.trips) : Fin 3 → Nat :=
  let c0_i32_27 : BitVec 32 := 0#32
  let c1_i32_29 : BitVec 32 := 1#32
  let arg14 : BitVec 32 := Scf.iv c0_i32_27 c1_i32_29 k0_t1
  let c8_i32_79 : BitVec 32 := 8#32
  let v285 : BitVec 32 := Scalar.muli arg14 c8_i32_79
  let v286 : BitVec 32 := v285
  let v287 : Index := Scalar.indexCast v286
  let c1024_80 : Index := 1024#32
  ![v287.toNat, 0, 1024]
def k0_mult19 (k0_t1 : Fin k0_t1_loop.trips) : BitVec 32 :=
  let c0_i32_27 : BitVec 32 := 0#32
  let c1_i32_29 : BitVec 32 := 1#32
  let arg14 : BitVec 32 := Scf.iv c0_i32_27 c1_i32_29 k0_t1
  let c16_i32_81 : BitVec 32 := 16#32
  let v291 : BitVec 32 := Scalar.muli arg14 c16_i32_81
  v291
def k0_off19 (k0_t1 : Fin k0_t1_loop.trips) : Fin 2 → Nat :=
  let c0_i32_27 : BitVec 32 := 0#32
  let c1_i32_29 : BitVec 32 := 1#32
  let arg14 : BitVec 32 := Scf.iv c0_i32_27 c1_i32_29 k0_t1
  let c16_i32_81 : BitVec 32 := 16#32
  let v291 : BitVec 32 := Scalar.muli arg14 c16_i32_81
  let v292 : BitVec 32 := v291
  let v293 : Index := Scalar.indexCast v292
  let c1152 : Index := 1152#32
  ![v293.toNat, 1152]
def k0_mult20 (k0_t1 : Fin k0_t1_loop.trips) : BitVec 32 :=
  let c0_i32_27 : BitVec 32 := 0#32
  let c1_i32_29 : BitVec 32 := 1#32
  let arg14 : BitVec 32 := Scf.iv c0_i32_27 c1_i32_29 k0_t1
  let c8_i32_84 : BitVec 32 := 8#32
  let v310 : BitVec 32 := Scalar.muli arg14 c8_i32_84
  v310
def k0_off20 (k0_t1 : Fin k0_t1_loop.trips) : Fin 3 → Nat :=
  let c0_i32_27 : BitVec 32 := 0#32
  let c1_i32_29 : BitVec 32 := 1#32
  let arg14 : BitVec 32 := Scf.iv c0_i32_27 c1_i32_29 k0_t1
  let c8_i32_84 : BitVec 32 := 8#32
  let v310 : BitVec 32 := Scalar.muli arg14 c8_i32_84
  let v311 : BitVec 32 := v310
  let v312 : Index := Scalar.indexCast v311
  let c1152_85 : Index := 1152#32
  ![v312.toNat, 0, 1152]
def k0_mult21 (k0_t1 : Fin k0_t1_loop.trips) : BitVec 32 :=
  let c0_i32_27 : BitVec 32 := 0#32
  let c1_i32_29 : BitVec 32 := 1#32
  let arg14 : BitVec 32 := Scf.iv c0_i32_27 c1_i32_29 k0_t1
  let c16_i32_86 : BitVec 32 := 16#32
  let v316 : BitVec 32 := Scalar.muli arg14 c16_i32_86
  v316
def k0_off21 (k0_t1 : Fin k0_t1_loop.trips) : Fin 2 → Nat :=
  let c0_i32_27 : BitVec 32 := 0#32
  let c1_i32_29 : BitVec 32 := 1#32
  let arg14 : BitVec 32 := Scf.iv c0_i32_27 c1_i32_29 k0_t1
  let c16_i32_86 : BitVec 32 := 16#32
  let v316 : BitVec 32 := Scalar.muli arg14 c16_i32_86
  let v317 : BitVec 32 := v316
  let v318 : Index := Scalar.indexCast v317
  let c1280 : Index := 1280#32
  ![v318.toNat, 1280]
def k0_mult22 (k0_t1 : Fin k0_t1_loop.trips) : BitVec 32 :=
  let c0_i32_27 : BitVec 32 := 0#32
  let c1_i32_29 : BitVec 32 := 1#32
  let arg14 : BitVec 32 := Scf.iv c0_i32_27 c1_i32_29 k0_t1
  let c8_i32_89 : BitVec 32 := 8#32
  let v335 : BitVec 32 := Scalar.muli arg14 c8_i32_89
  v335
def k0_off22 (k0_t1 : Fin k0_t1_loop.trips) : Fin 3 → Nat :=
  let c0_i32_27 : BitVec 32 := 0#32
  let c1_i32_29 : BitVec 32 := 1#32
  let arg14 : BitVec 32 := Scf.iv c0_i32_27 c1_i32_29 k0_t1
  let c8_i32_89 : BitVec 32 := 8#32
  let v335 : BitVec 32 := Scalar.muli arg14 c8_i32_89
  let v336 : BitVec 32 := v335
  let v337 : Index := Scalar.indexCast v336
  let c1280_90 : Index := 1280#32
  ![v337.toNat, 0, 1280]
def k0_mult23 (k0_t1 : Fin k0_t1_loop.trips) : BitVec 32 :=
  let c0_i32_27 : BitVec 32 := 0#32
  let c1_i32_29 : BitVec 32 := 1#32
  let arg14 : BitVec 32 := Scf.iv c0_i32_27 c1_i32_29 k0_t1
  let c16_i32_91 : BitVec 32 := 16#32
  let v341 : BitVec 32 := Scalar.muli arg14 c16_i32_91
  v341
def k0_off23 (k0_t1 : Fin k0_t1_loop.trips) : Fin 2 → Nat :=
  let c0_i32_27 : BitVec 32 := 0#32
  let c1_i32_29 : BitVec 32 := 1#32
  let arg14 : BitVec 32 := Scf.iv c0_i32_27 c1_i32_29 k0_t1
  let c16_i32_91 : BitVec 32 := 16#32
  let v341 : BitVec 32 := Scalar.muli arg14 c16_i32_91
  let v342 : BitVec 32 := v341
  let v343 : Index := Scalar.indexCast v342
  let c1408 : Index := 1408#32
  ![v343.toNat, 1408]
def k0_mult24 (k0_t1 : Fin k0_t1_loop.trips) : BitVec 32 :=
  let c0_i32_27 : BitVec 32 := 0#32
  let c1_i32_29 : BitVec 32 := 1#32
  let arg14 : BitVec 32 := Scf.iv c0_i32_27 c1_i32_29 k0_t1
  let c8_i32_94 : BitVec 32 := 8#32
  let v360 : BitVec 32 := Scalar.muli arg14 c8_i32_94
  v360
def k0_off24 (k0_t1 : Fin k0_t1_loop.trips) : Fin 3 → Nat :=
  let c0_i32_27 : BitVec 32 := 0#32
  let c1_i32_29 : BitVec 32 := 1#32
  let arg14 : BitVec 32 := Scf.iv c0_i32_27 c1_i32_29 k0_t1
  let c8_i32_94 : BitVec 32 := 8#32
  let v360 : BitVec 32 := Scalar.muli arg14 c8_i32_94
  let v361 : BitVec 32 := v360
  let v362 : Index := Scalar.indexCast v361
  let c1408_95 : Index := 1408#32
  ![v362.toNat, 0, 1408]
def k0_mult25 (k0_t1 : Fin k0_t1_loop.trips) : BitVec 32 :=
  let c0_i32_27 : BitVec 32 := 0#32
  let c1_i32_29 : BitVec 32 := 1#32
  let arg14 : BitVec 32 := Scf.iv c0_i32_27 c1_i32_29 k0_t1
  let c16_i32_96 : BitVec 32 := 16#32
  let v366 : BitVec 32 := Scalar.muli arg14 c16_i32_96
  v366
def k0_off25 (k0_t1 : Fin k0_t1_loop.trips) : Fin 2 → Nat :=
  let c0_i32_27 : BitVec 32 := 0#32
  let c1_i32_29 : BitVec 32 := 1#32
  let arg14 : BitVec 32 := Scf.iv c0_i32_27 c1_i32_29 k0_t1
  let c16_i32_96 : BitVec 32 := 16#32
  let v366 : BitVec 32 := Scalar.muli arg14 c16_i32_96
  let v367 : BitVec 32 := v366
  let v368 : Index := Scalar.indexCast v367
  let c1536 : Index := 1536#32
  ![v368.toNat, 1536]
def k0_mult26 (k0_t1 : Fin k0_t1_loop.trips) : BitVec 32 :=
  let c0_i32_27 : BitVec 32 := 0#32
  let c1_i32_29 : BitVec 32 := 1#32
  let arg14 : BitVec 32 := Scf.iv c0_i32_27 c1_i32_29 k0_t1
  let c8_i32_99 : BitVec 32 := 8#32
  let v385 : BitVec 32 := Scalar.muli arg14 c8_i32_99
  v385
def k0_off26 (k0_t1 : Fin k0_t1_loop.trips) : Fin 3 → Nat :=
  let c0_i32_27 : BitVec 32 := 0#32
  let c1_i32_29 : BitVec 32 := 1#32
  let arg14 : BitVec 32 := Scf.iv c0_i32_27 c1_i32_29 k0_t1
  let c8_i32_99 : BitVec 32 := 8#32
  let v385 : BitVec 32 := Scalar.muli arg14 c8_i32_99
  let v386 : BitVec 32 := v385
  let v387 : Index := Scalar.indexCast v386
  let c1536_100 : Index := 1536#32
  ![v387.toNat, 0, 1536]
def k0_mult27 (k0_t1 : Fin k0_t1_loop.trips) : BitVec 32 :=
  let c0_i32_27 : BitVec 32 := 0#32
  let c1_i32_29 : BitVec 32 := 1#32
  let arg14 : BitVec 32 := Scf.iv c0_i32_27 c1_i32_29 k0_t1
  let c16_i32_101 : BitVec 32 := 16#32
  let v391 : BitVec 32 := Scalar.muli arg14 c16_i32_101
  v391
def k0_off27 (k0_t1 : Fin k0_t1_loop.trips) : Fin 2 → Nat :=
  let c0_i32_27 : BitVec 32 := 0#32
  let c1_i32_29 : BitVec 32 := 1#32
  let arg14 : BitVec 32 := Scf.iv c0_i32_27 c1_i32_29 k0_t1
  let c16_i32_101 : BitVec 32 := 16#32
  let v391 : BitVec 32 := Scalar.muli arg14 c16_i32_101
  let v392 : BitVec 32 := v391
  let v393 : Index := Scalar.indexCast v392
  let c1664 : Index := 1664#32
  ![v393.toNat, 1664]
def k0_mult28 (k0_t1 : Fin k0_t1_loop.trips) : BitVec 32 :=
  let c0_i32_27 : BitVec 32 := 0#32
  let c1_i32_29 : BitVec 32 := 1#32
  let arg14 : BitVec 32 := Scf.iv c0_i32_27 c1_i32_29 k0_t1
  let c8_i32_104 : BitVec 32 := 8#32
  let v410 : BitVec 32 := Scalar.muli arg14 c8_i32_104
  v410
def k0_off28 (k0_t1 : Fin k0_t1_loop.trips) : Fin 3 → Nat :=
  let c0_i32_27 : BitVec 32 := 0#32
  let c1_i32_29 : BitVec 32 := 1#32
  let arg14 : BitVec 32 := Scf.iv c0_i32_27 c1_i32_29 k0_t1
  let c8_i32_104 : BitVec 32 := 8#32
  let v410 : BitVec 32 := Scalar.muli arg14 c8_i32_104
  let v411 : BitVec 32 := v410
  let v412 : Index := Scalar.indexCast v411
  let c1664_105 : Index := 1664#32
  ![v412.toNat, 0, 1664]
def k0_mult29 (k0_t1 : Fin k0_t1_loop.trips) : BitVec 32 :=
  let c0_i32_27 : BitVec 32 := 0#32
  let c1_i32_29 : BitVec 32 := 1#32
  let arg14 : BitVec 32 := Scf.iv c0_i32_27 c1_i32_29 k0_t1
  let c16_i32_106 : BitVec 32 := 16#32
  let v416 : BitVec 32 := Scalar.muli arg14 c16_i32_106
  v416
def k0_off29 (k0_t1 : Fin k0_t1_loop.trips) : Fin 2 → Nat :=
  let c0_i32_27 : BitVec 32 := 0#32
  let c1_i32_29 : BitVec 32 := 1#32
  let arg14 : BitVec 32 := Scf.iv c0_i32_27 c1_i32_29 k0_t1
  let c16_i32_106 : BitVec 32 := 16#32
  let v416 : BitVec 32 := Scalar.muli arg14 c16_i32_106
  let v417 : BitVec 32 := v416
  let v418 : Index := Scalar.indexCast v417
  let c1792 : Index := 1792#32
  ![v418.toNat, 1792]
def k0_mult30 (k0_t1 : Fin k0_t1_loop.trips) : BitVec 32 :=
  let c0_i32_27 : BitVec 32 := 0#32
  let c1_i32_29 : BitVec 32 := 1#32
  let arg14 : BitVec 32 := Scf.iv c0_i32_27 c1_i32_29 k0_t1
  let c8_i32_109 : BitVec 32 := 8#32
  let v435 : BitVec 32 := Scalar.muli arg14 c8_i32_109
  v435
def k0_off30 (k0_t1 : Fin k0_t1_loop.trips) : Fin 3 → Nat :=
  let c0_i32_27 : BitVec 32 := 0#32
  let c1_i32_29 : BitVec 32 := 1#32
  let arg14 : BitVec 32 := Scf.iv c0_i32_27 c1_i32_29 k0_t1
  let c8_i32_109 : BitVec 32 := 8#32
  let v435 : BitVec 32 := Scalar.muli arg14 c8_i32_109
  let v436 : BitVec 32 := v435
  let v437 : Index := Scalar.indexCast v436
  let c1792_110 : Index := 1792#32
  ![v437.toNat, 0, 1792]
def k0_mult31 (k0_t1 : Fin k0_t1_loop.trips) : BitVec 32 :=
  let c0_i32_27 : BitVec 32 := 0#32
  let c1_i32_29 : BitVec 32 := 1#32
  let arg14 : BitVec 32 := Scf.iv c0_i32_27 c1_i32_29 k0_t1
  let c16_i32_111 : BitVec 32 := 16#32
  let v441 : BitVec 32 := Scalar.muli arg14 c16_i32_111
  v441
def k0_off31 (k0_t1 : Fin k0_t1_loop.trips) : Fin 2 → Nat :=
  let c0_i32_27 : BitVec 32 := 0#32
  let c1_i32_29 : BitVec 32 := 1#32
  let arg14 : BitVec 32 := Scf.iv c0_i32_27 c1_i32_29 k0_t1
  let c16_i32_111 : BitVec 32 := 16#32
  let v441 : BitVec 32 := Scalar.muli arg14 c16_i32_111
  let v442 : BitVec 32 := v441
  let v443 : Index := Scalar.indexCast v442
  let c1920 : Index := 1920#32
  ![v443.toNat, 1920]
def k0_mult32 (k0_t1 : Fin k0_t1_loop.trips) : BitVec 32 :=
  let c0_i32_27 : BitVec 32 := 0#32
  let c1_i32_29 : BitVec 32 := 1#32
  let arg14 : BitVec 32 := Scf.iv c0_i32_27 c1_i32_29 k0_t1
  let c8_i32_114 : BitVec 32 := 8#32
  let v460 : BitVec 32 := Scalar.muli arg14 c8_i32_114
  v460
def k0_off32 (k0_t1 : Fin k0_t1_loop.trips) : Fin 3 → Nat :=
  let c0_i32_27 : BitVec 32 := 0#32
  let c1_i32_29 : BitVec 32 := 1#32
  let arg14 : BitVec 32 := Scf.iv c0_i32_27 c1_i32_29 k0_t1
  let c8_i32_114 : BitVec 32 := 8#32
  let v460 : BitVec 32 := Scalar.muli arg14 c8_i32_114
  let v461 : BitVec 32 := v460
  let v462 : Index := Scalar.indexCast v461
  let c1920_115 : Index := 1920#32
  ![v462.toNat, 0, 1920]
@[reducible] def k0_t2_loop : Scf.Loop 32 :=
  let c0_i32_9 : BitVec 32 := 0#32
  let c32_i32 : BitVec 32 := 32#32
  let v24 : BitVec 32 := Scalar.addi c0_i32_9 c32_i32
  let c1_i32_10 : BitVec 32 := 1#32
  ⟨c0_i32_9, v24, c1_i32_10⟩
def k0_off33 (k0_t2 : Fin k0_t2_loop.trips) : Fin 2 → Nat :=
  let c0_i32_9 : BitVec 32 := 0#32
  let c1_i32_10 : BitVec 32 := 1#32
  let arg14 : BitVec 32 := Scf.iv c0_i32_9 c1_i32_10 k0_t2
  let v37 : Index := Scalar.indexCast arg14
  let c0_23 : Index := 0#32
  ![v37.toNat, 0]
def k0_mult33 (k0_t2 : Fin k0_t2_loop.trips) : BitVec 32 :=
  let c0_i32_9 : BitVec 32 := 0#32
  let c1_i32_10 : BitVec 32 := 1#32
  let arg14 : BitVec 32 := Scf.iv c0_i32_9 c1_i32_10 k0_t2
  let c64_i32 : BitVec 32 := 64#32
  let v53 : BitVec 32 := Scalar.muli arg14 c64_i32
  let c0_i32_25 : BitVec 32 := 0#32
  let v54 : BitVec 32 := Scalar.addi v53 c0_i32_25
  v54
def k0_off34 (k0_t2 : Fin k0_t2_loop.trips) (c0_i32_25 : BitVec 32) : Fin 2 → Nat :=
  let c0_i32_9 : BitVec 32 := 0#32
  let c1_i32_10 : BitVec 32 := 1#32
  let arg14 : BitVec 32 := Scf.iv c0_i32_9 c1_i32_10 k0_t2
  let c64_i32 : BitVec 32 := 64#32
  let v53 : BitVec 32 := Scalar.muli arg14 c64_i32
  let v54 : BitVec 32 := Scalar.addi v53 c0_i32_25
  let v55 : BitVec 32 := v54
  let v56 : Index := Scalar.indexCast v55
  let c0_26 : Index := 0#32
  ![v56.toNat, 0]
def k0_mult34 (k0_t2 : Fin k0_t2_loop.trips) : BitVec 32 :=
  let c0_i32_9 : BitVec 32 := 0#32
  let c1_i32_10 : BitVec 32 := 1#32
  let arg14 : BitVec 32 := Scf.iv c0_i32_9 c1_i32_10 k0_t2
  let c32_i32_34 : BitVec 32 := 32#32
  let v136 : BitVec 32 := Scalar.muli arg14 c32_i32_34
  let c0_i32_35 : BitVec 32 := 0#32
  let v137 : BitVec 32 := Scalar.addi v136 c0_i32_35
  let c0_i32_36 : BitVec 32 := 0#32
  let v138 : BitVec 32 := Scalar.addi v137 c0_i32_36
  v138
def k0_off35 (k0_t2 : Fin k0_t2_loop.trips) (c0_i32_35 : BitVec 32) (c0_i32_36 : BitVec 32) : Fin 3 → Nat :=
  let c0_i32_9 : BitVec 32 := 0#32
  let c1_i32_10 : BitVec 32 := 1#32
  let arg14 : BitVec 32 := Scf.iv c0_i32_9 c1_i32_10 k0_t2
  let c32_i32_34 : BitVec 32 := 32#32
  let v136 : BitVec 32 := Scalar.muli arg14 c32_i32_34
  let v137 : BitVec 32 := Scalar.addi v136 c0_i32_35
  let v138 : BitVec 32 := Scalar.addi v137 c0_i32_36
  let v139 : BitVec 32 := v138
  let v140 : Index := Scalar.indexCast v139
  let c0_37 : Index := 0#32
  ![v140.toNat, 0, 0]
def k0_mult35 (k0_t2 : Fin k0_t2_loop.trips) : BitVec 32 :=
  let c0_i32_9 : BitVec 32 := 0#32
  let c1_i32_10 : BitVec 32 := 1#32
  let arg14 : BitVec 32 := Scf.iv c0_i32_9 c1_i32_10 k0_t2
  let c32_i32_38 : BitVec 32 := 32#32
  let v144 : BitVec 32 := Scalar.muli arg14 c32_i32_38
  let c0_i32_39 : BitVec 32 := 0#32
  let v145 : BitVec 32 := Scalar.addi v144 c0_i32_39
  let c8_i32_40 : BitVec 32 := 8#32
  let v146 : BitVec 32 := Scalar.addi v145 c8_i32_40
  v146
def k0_mult36 (k0_t2 : Fin k0_t2_loop.trips) : BitVec 32 :=
  let c0_i32_9 : BitVec 32 := 0#32
  let c1_i32_10 : BitVec 32 := 1#32
  let arg14 : BitVec 32 := Scf.iv c0_i32_9 c1_i32_10 k0_t2
  let c64_i32_42 : BitVec 32 := 64#32
  let v152 : BitVec 32 := Scalar.muli arg14 c64_i32_42
  let c32_i32_43 : BitVec 32 := 32#32
  let v153 : BitVec 32 := Scalar.addi v152 c32_i32_43
  v153
def k0_mult37 (k0_t2 : Fin k0_t2_loop.trips) : BitVec 32 :=
  let c0_i32_9 : BitVec 32 := 0#32
  let c1_i32_10 : BitVec 32 := 1#32
  let arg14 : BitVec 32 := Scf.iv c0_i32_9 c1_i32_10 k0_t2
  let c32_i32_57 : BitVec 32 := 32#32
  let v235 : BitVec 32 := Scalar.muli arg14 c32_i32_57
  let c16_i32_58 : BitVec 32 := 16#32
  let v236 : BitVec 32 := Scalar.addi v235 c16_i32_58
  let c0_i32_59 : BitVec 32 := 0#32
  let v237 : BitVec 32 := Scalar.addi v236 c0_i32_59
  v237
def k0_mult38 (k0_t2 : Fin k0_t2_loop.trips) : BitVec 32 :=
  let c0_i32_9 : BitVec 32 := 0#32
  let c1_i32_10 : BitVec 32 := 1#32
  let arg14 : BitVec 32 := Scf.iv c0_i32_9 c1_i32_10 k0_t2
  let c32_i32_61 : BitVec 32 := 32#32
  let v243 : BitVec 32 := Scalar.muli arg14 c32_i32_61
  let c16_i32_62 : BitVec 32 := 16#32
  let v244 : BitVec 32 := Scalar.addi v243 c16_i32_62
  let c8_i32_63 : BitVec 32 := 8#32
  let v245 : BitVec 32 := Scalar.addi v244 c8_i32_63
  v245
def k0_off36 (k0_t2 : Fin k0_t2_loop.trips) : Fin 2 → Nat :=
  let c0_i32_9 : BitVec 32 := 0#32
  let c1_i32_10 : BitVec 32 := 1#32
  let arg14 : BitVec 32 := Scf.iv c0_i32_9 c1_i32_10 k0_t2
  let v251 : Index := Scalar.indexCast arg14
  let c128 : Index := 128#32
  ![v251.toNat, 128]
def k0_mult39 (k0_t2 : Fin k0_t2_loop.trips) : BitVec 32 :=
  let c0_i32_9 : BitVec 32 := 0#32
  let c1_i32_10 : BitVec 32 := 1#32
  let arg14 : BitVec 32 := Scf.iv c0_i32_9 c1_i32_10 k0_t2
  let c64_i32_65 : BitVec 32 := 64#32
  let v257 : BitVec 32 := Scalar.muli arg14 c64_i32_65
  let c0_i32_66 : BitVec 32 := 0#32
  let v258 : BitVec 32 := Scalar.addi v257 c0_i32_66
  v258
def k0_mult40 (k0_t2 : Fin k0_t2_loop.trips) : BitVec 32 :=
  let c0_i32_9 : BitVec 32 := 0#32
  let c1_i32_10 : BitVec 32 := 1#32
  let arg14 : BitVec 32 := Scf.iv c0_i32_9 c1_i32_10 k0_t2
  let c32_i32_74 : BitVec 32 := 32#32
  let v308 : BitVec 32 := Scalar.muli arg14 c32_i32_74
  let c0_i32_75 : BitVec 32 := 0#32
  let v309 : BitVec 32 := Scalar.addi v308 c0_i32_75
  let c0_i32_76 : BitVec 32 := 0#32
  let v310 : BitVec 32 := Scalar.addi v309 c0_i32_76
  v310
def k0_off37 (k0_t2 : Fin k0_t2_loop.trips) (c0_i32_75 : BitVec 32) (c0_i32_76 : BitVec 32) : Fin 3 → Nat :=
  let c0_i32_9 : BitVec 32 := 0#32
  let c1_i32_10 : BitVec 32 := 1#32
  let arg14 : BitVec 32 := Scf.iv c0_i32_9 c1_i32_10 k0_t2
  let c32_i32_74 : BitVec 32 := 32#32
  let v308 : BitVec 32 := Scalar.muli arg14 c32_i32_74
  let v309 : BitVec 32 := Scalar.addi v308 c0_i32_75
  let v310 : BitVec 32 := Scalar.addi v309 c0_i32_76
  let v311 : BitVec 32 := v310
  let v312 : Index := Scalar.indexCast v311
  let c128_77 : Index := 128#32
  ![v312.toNat, 0, 128]
def k0_mult41 (k0_t2 : Fin k0_t2_loop.trips) : BitVec 32 :=
  let c0_i32_9 : BitVec 32 := 0#32
  let c1_i32_10 : BitVec 32 := 1#32
  let arg14 : BitVec 32 := Scf.iv c0_i32_9 c1_i32_10 k0_t2
  let c32_i32_78 : BitVec 32 := 32#32
  let v316 : BitVec 32 := Scalar.muli arg14 c32_i32_78
  let c0_i32_79 : BitVec 32 := 0#32
  let v317 : BitVec 32 := Scalar.addi v316 c0_i32_79
  let c8_i32_80 : BitVec 32 := 8#32
  let v318 : BitVec 32 := Scalar.addi v317 c8_i32_80
  v318
def k0_mult42 (k0_t2 : Fin k0_t2_loop.trips) : BitVec 32 :=
  let c0_i32_9 : BitVec 32 := 0#32
  let c1_i32_10 : BitVec 32 := 1#32
  let arg14 : BitVec 32 := Scf.iv c0_i32_9 c1_i32_10 k0_t2
  let c64_i32_82 : BitVec 32 := 64#32
  let v324 : BitVec 32 := Scalar.muli arg14 c64_i32_82
  let c32_i32_83 : BitVec 32 := 32#32
  let v325 : BitVec 32 := Scalar.addi v324 c32_i32_83
  v325
def k0_mult43 (k0_t2 : Fin k0_t2_loop.trips) : BitVec 32 :=
  let c0_i32_9 : BitVec 32 := 0#32
  let c1_i32_10 : BitVec 32 := 1#32
  let arg14 : BitVec 32 := Scf.iv c0_i32_9 c1_i32_10 k0_t2
  let c32_i32_95 : BitVec 32 := 32#32
  let v375 : BitVec 32 := Scalar.muli arg14 c32_i32_95
  let c16_i32_96 : BitVec 32 := 16#32
  let v376 : BitVec 32 := Scalar.addi v375 c16_i32_96
  let c0_i32_97 : BitVec 32 := 0#32
  let v377 : BitVec 32 := Scalar.addi v376 c0_i32_97
  v377
def k0_mult44 (k0_t2 : Fin k0_t2_loop.trips) : BitVec 32 :=
  let c0_i32_9 : BitVec 32 := 0#32
  let c1_i32_10 : BitVec 32 := 1#32
  let arg14 : BitVec 32 := Scf.iv c0_i32_9 c1_i32_10 k0_t2
  let c32_i32_99 : BitVec 32 := 32#32
  let v383 : BitVec 32 := Scalar.muli arg14 c32_i32_99
  let c16_i32_100 : BitVec 32 := 16#32
  let v384 : BitVec 32 := Scalar.addi v383 c16_i32_100
  let c8_i32_101 : BitVec 32 := 8#32
  let v385 : BitVec 32 := Scalar.addi v384 c8_i32_101
  v385
def k0_off38 (k0_t2 : Fin k0_t2_loop.trips) : Fin 2 → Nat :=
  let c0_i32_9 : BitVec 32 := 0#32
  let c1_i32_10 : BitVec 32 := 1#32
  let arg14 : BitVec 32 := Scf.iv c0_i32_9 c1_i32_10 k0_t2
  let v391 : Index := Scalar.indexCast arg14
  let c256 : Index := 256#32
  ![v391.toNat, 256]
def k0_mult45 (k0_t2 : Fin k0_t2_loop.trips) : BitVec 32 :=
  let c0_i32_9 : BitVec 32 := 0#32
  let c1_i32_10 : BitVec 32 := 1#32
  let arg14 : BitVec 32 := Scf.iv c0_i32_9 c1_i32_10 k0_t2
  let c64_i32_105 : BitVec 32 := 64#32
  let v407 : BitVec 32 := Scalar.muli arg14 c64_i32_105
  let c0_i32_106 : BitVec 32 := 0#32
  let v408 : BitVec 32 := Scalar.addi v407 c0_i32_106
  v408
def k0_off39 (k0_t2 : Fin k0_t2_loop.trips) (c0_i32_106 : BitVec 32) : Fin 2 → Nat :=
  let c0_i32_9 : BitVec 32 := 0#32
  let c1_i32_10 : BitVec 32 := 1#32
  let arg14 : BitVec 32 := Scf.iv c0_i32_9 c1_i32_10 k0_t2
  let c64_i32_105 : BitVec 32 := 64#32
  let v407 : BitVec 32 := Scalar.muli arg14 c64_i32_105
  let v408 : BitVec 32 := Scalar.addi v407 c0_i32_106
  let v409 : BitVec 32 := v408
  let v410 : Index := Scalar.indexCast v409
  let c128_107 : Index := 128#32
  ![v410.toNat, 128]
def k0_mult46 (k0_t2 : Fin k0_t2_loop.trips) : BitVec 32 :=
  let c0_i32_9 : BitVec 32 := 0#32
  let c1_i32_10 : BitVec 32 := 1#32
  let arg14 : BitVec 32 := Scf.iv c0_i32_9 c1_i32_10 k0_t2
  let c32_i32_120 : BitVec 32 := 32#32
  let v490 : BitVec 32 := Scalar.muli arg14 c32_i32_120
  let c0_i32_121 : BitVec 32 := 0#32
  let v491 : BitVec 32 := Scalar.addi v490 c0_i32_121
  let c0_i32_122 : BitVec 32 := 0#32
  let v492 : BitVec 32 := Scalar.addi v491 c0_i32_122
  v492
def k0_off40 (k0_t2 : Fin k0_t2_loop.trips) (c0_i32_121 : BitVec 32) (c0_i32_122 : BitVec 32) : Fin 3 → Nat :=
  let c0_i32_9 : BitVec 32 := 0#32
  let c1_i32_10 : BitVec 32 := 1#32
  let arg14 : BitVec 32 := Scf.iv c0_i32_9 c1_i32_10 k0_t2
  let c32_i32_120 : BitVec 32 := 32#32
  let v490 : BitVec 32 := Scalar.muli arg14 c32_i32_120
  let v491 : BitVec 32 := Scalar.addi v490 c0_i32_121
  let v492 : BitVec 32 := Scalar.addi v491 c0_i32_122
  let v493 : BitVec 32 := v492
  let v494 : Index := Scalar.indexCast v493
  let c256_123 : Index := 256#32
  ![v494.toNat, 0, 256]
def k0_mult47 (k0_t2 : Fin k0_t2_loop.trips) : BitVec 32 :=
  let c0_i32_9 : BitVec 32 := 0#32
  let c1_i32_10 : BitVec 32 := 1#32
  let arg14 : BitVec 32 := Scf.iv c0_i32_9 c1_i32_10 k0_t2
  let c32_i32_124 : BitVec 32 := 32#32
  let v498 : BitVec 32 := Scalar.muli arg14 c32_i32_124
  let c0_i32_125 : BitVec 32 := 0#32
  let v499 : BitVec 32 := Scalar.addi v498 c0_i32_125
  let c8_i32_126 : BitVec 32 := 8#32
  let v500 : BitVec 32 := Scalar.addi v499 c8_i32_126
  v500
def k0_mult48 (k0_t2 : Fin k0_t2_loop.trips) : BitVec 32 :=
  let c0_i32_9 : BitVec 32 := 0#32
  let c1_i32_10 : BitVec 32 := 1#32
  let arg14 : BitVec 32 := Scf.iv c0_i32_9 c1_i32_10 k0_t2
  let c64_i32_128 : BitVec 32 := 64#32
  let v506 : BitVec 32 := Scalar.muli arg14 c64_i32_128
  let c32_i32_129 : BitVec 32 := 32#32
  let v507 : BitVec 32 := Scalar.addi v506 c32_i32_129
  v507
def k0_mult49 (k0_t2 : Fin k0_t2_loop.trips) : BitVec 32 :=
  let c0_i32_9 : BitVec 32 := 0#32
  let c1_i32_10 : BitVec 32 := 1#32
  let arg14 : BitVec 32 := Scf.iv c0_i32_9 c1_i32_10 k0_t2
  let c32_i32_143 : BitVec 32 := 32#32
  let v589 : BitVec 32 := Scalar.muli arg14 c32_i32_143
  let c16_i32_144 : BitVec 32 := 16#32
  let v590 : BitVec 32 := Scalar.addi v589 c16_i32_144
  let c0_i32_145 : BitVec 32 := 0#32
  let v591 : BitVec 32 := Scalar.addi v590 c0_i32_145
  v591
def k0_mult50 (k0_t2 : Fin k0_t2_loop.trips) : BitVec 32 :=
  let c0_i32_9 : BitVec 32 := 0#32
  let c1_i32_10 : BitVec 32 := 1#32
  let arg14 : BitVec 32 := Scf.iv c0_i32_9 c1_i32_10 k0_t2
  let c32_i32_147 : BitVec 32 := 32#32
  let v597 : BitVec 32 := Scalar.muli arg14 c32_i32_147
  let c16_i32_148 : BitVec 32 := 16#32
  let v598 : BitVec 32 := Scalar.addi v597 c16_i32_148
  let c8_i32_149 : BitVec 32 := 8#32
  let v599 : BitVec 32 := Scalar.addi v598 c8_i32_149
  v599
def k0_off41 (k0_t2 : Fin k0_t2_loop.trips) : Fin 2 → Nat :=
  let c0_i32_9 : BitVec 32 := 0#32
  let c1_i32_10 : BitVec 32 := 1#32
  let arg14 : BitVec 32 := Scf.iv c0_i32_9 c1_i32_10 k0_t2
  let v605 : Index := Scalar.indexCast arg14
  let c384 : Index := 384#32
  ![v605.toNat, 384]
def k0_mult51 (k0_t2 : Fin k0_t2_loop.trips) : BitVec 32 :=
  let c0_i32_9 : BitVec 32 := 0#32
  let c1_i32_10 : BitVec 32 := 1#32
  let arg14 : BitVec 32 := Scf.iv c0_i32_9 c1_i32_10 k0_t2
  let c64_i32_151 : BitVec 32 := 64#32
  let v611 : BitVec 32 := Scalar.muli arg14 c64_i32_151
  let c0_i32_152 : BitVec 32 := 0#32
  let v612 : BitVec 32 := Scalar.addi v611 c0_i32_152
  v612
def k0_mult52 (k0_t2 : Fin k0_t2_loop.trips) : BitVec 32 :=
  let c0_i32_9 : BitVec 32 := 0#32
  let c1_i32_10 : BitVec 32 := 1#32
  let arg14 : BitVec 32 := Scf.iv c0_i32_9 c1_i32_10 k0_t2
  let c32_i32_164 : BitVec 32 := 32#32
  let v662 : BitVec 32 := Scalar.muli arg14 c32_i32_164
  let c0_i32_165 : BitVec 32 := 0#32
  let v663 : BitVec 32 := Scalar.addi v662 c0_i32_165
  let c0_i32_166 : BitVec 32 := 0#32
  let v664 : BitVec 32 := Scalar.addi v663 c0_i32_166
  v664
def k0_off42 (k0_t2 : Fin k0_t2_loop.trips) (c0_i32_165 : BitVec 32) (c0_i32_166 : BitVec 32) : Fin 3 → Nat :=
  let c0_i32_9 : BitVec 32 := 0#32
  let c1_i32_10 : BitVec 32 := 1#32
  let arg14 : BitVec 32 := Scf.iv c0_i32_9 c1_i32_10 k0_t2
  let c32_i32_164 : BitVec 32 := 32#32
  let v662 : BitVec 32 := Scalar.muli arg14 c32_i32_164
  let v663 : BitVec 32 := Scalar.addi v662 c0_i32_165
  let v664 : BitVec 32 := Scalar.addi v663 c0_i32_166
  let v665 : BitVec 32 := v664
  let v666 : Index := Scalar.indexCast v665
  let c384_167 : Index := 384#32
  ![v666.toNat, 0, 384]
def k0_mult53 (k0_t2 : Fin k0_t2_loop.trips) : BitVec 32 :=
  let c0_i32_9 : BitVec 32 := 0#32
  let c1_i32_10 : BitVec 32 := 1#32
  let arg14 : BitVec 32 := Scf.iv c0_i32_9 c1_i32_10 k0_t2
  let c32_i32_168 : BitVec 32 := 32#32
  let v670 : BitVec 32 := Scalar.muli arg14 c32_i32_168
  let c0_i32_169 : BitVec 32 := 0#32
  let v671 : BitVec 32 := Scalar.addi v670 c0_i32_169
  let c8_i32_170 : BitVec 32 := 8#32
  let v672 : BitVec 32 := Scalar.addi v671 c8_i32_170
  v672
def k0_mult54 (k0_t2 : Fin k0_t2_loop.trips) : BitVec 32 :=
  let c0_i32_9 : BitVec 32 := 0#32
  let c1_i32_10 : BitVec 32 := 1#32
  let arg14 : BitVec 32 := Scf.iv c0_i32_9 c1_i32_10 k0_t2
  let c64_i32_172 : BitVec 32 := 64#32
  let v678 : BitVec 32 := Scalar.muli arg14 c64_i32_172
  let c32_i32_173 : BitVec 32 := 32#32
  let v679 : BitVec 32 := Scalar.addi v678 c32_i32_173
  v679
def k0_mult55 (k0_t2 : Fin k0_t2_loop.trips) : BitVec 32 :=
  let c0_i32_9 : BitVec 32 := 0#32
  let c1_i32_10 : BitVec 32 := 1#32
  let arg14 : BitVec 32 := Scf.iv c0_i32_9 c1_i32_10 k0_t2
  let c32_i32_185 : BitVec 32 := 32#32
  let v729 : BitVec 32 := Scalar.muli arg14 c32_i32_185
  let c16_i32_186 : BitVec 32 := 16#32
  let v730 : BitVec 32 := Scalar.addi v729 c16_i32_186
  let c0_i32_187 : BitVec 32 := 0#32
  let v731 : BitVec 32 := Scalar.addi v730 c0_i32_187
  v731
def k0_mult56 (k0_t2 : Fin k0_t2_loop.trips) : BitVec 32 :=
  let c0_i32_9 : BitVec 32 := 0#32
  let c1_i32_10 : BitVec 32 := 1#32
  let arg14 : BitVec 32 := Scf.iv c0_i32_9 c1_i32_10 k0_t2
  let c32_i32_189 : BitVec 32 := 32#32
  let v737 : BitVec 32 := Scalar.muli arg14 c32_i32_189
  let c16_i32_190 : BitVec 32 := 16#32
  let v738 : BitVec 32 := Scalar.addi v737 c16_i32_190
  let c8_i32_191 : BitVec 32 := 8#32
  let v739 : BitVec 32 := Scalar.addi v738 c8_i32_191
  v739
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S2x256x2048 : Shape := ⟨3, ![2, 256, 2048]⟩
abbrev S2048x3584 : Shape := ⟨2, ![2048, 3584]⟩
abbrev S32x7168 : Shape := ⟨2, ![32, 7168]⟩
abbrev S2048x16 : Shape := ⟨2, ![2048, 16]⟩
abbrev S16x7168 : Shape := ⟨2, ![16, 7168]⟩
abbrev S_ : Shape := ⟨0, ![]⟩
abbrev S32x3584 : Shape := ⟨2, ![32, 3584]⟩
abbrev S32x64x3584 : Shape := ⟨3, ![32, 64, 3584]⟩
abbrev S32x1x3584 : Shape := ⟨3, ![32, 1, 3584]⟩
abbrev S2x256x3584 : Shape := ⟨3, ![2, 256, 3584]⟩
abbrev S2x256x3584x1 : Shape := ⟨4, ![2, 256, 3584, 1]⟩
abbrev S2x256x3584x2 : Shape := ⟨4, ![2, 256, 3584, 2]⟩
abbrev S2x256x7168 : Shape := ⟨3, ![2, 256, 7168]⟩
abbrev S2x256x16 : Shape := ⟨3, ![2, 256, 16]⟩
abbrev S512x7168 : Shape := ⟨2, ![512, 7168]⟩

abbrev nBuf : Space → Nat
  | .hbm => 206
  | .vmem => 0
  | .smem => 0
  | _ => 0

abbrev hbmTy0_0 (i : Nat) : BufTy := match i % 128 with
  | 0 => ⟨S2x256x2048, .bf16⟩
  | 1 => ⟨S2048x3584, .i8⟩
  | 2 => ⟨S32x7168, .f32⟩
  | 3 => ⟨S2048x16, .bf16⟩
  | 4 => ⟨S16x7168, .bf16⟩
  | 5 => ⟨S32x7168, .bf16⟩
  | 6 => ⟨S2048x3584, .i32⟩
  | 7 => ⟨S_, .i32⟩
  | 8 => ⟨S2048x3584, .i32⟩
  | 9 => ⟨S2048x3584, .i32⟩
  | 10 => ⟨S32x3584, .bf16⟩
  | 11 => ⟨S_, .i32⟩
  | 12 => ⟨S2048x3584, .i32⟩
  | 13 => ⟨S2048x3584, .i32⟩
  | 14 => ⟨S_, .i32⟩
  | 15 => ⟨S2048x3584, .i32⟩
  | 16 => ⟨S2048x3584, .i32⟩
  | 17 => ⟨S_, .i32⟩
  | 18 => ⟨S2048x3584, .i32⟩
  | 19 => ⟨S2048x3584, .i1⟩
  | 20 => ⟨S_, .i32⟩
  | 21 => ⟨S2048x3584, .i32⟩
  | 22 => ⟨S2048x3584, .i32⟩
  | 23 => ⟨S_, .i32⟩
  | 24 => ⟨S2048x3584, .i32⟩
  | 25 => ⟨S2048x3584, .i32⟩
  | 26 => ⟨S_, .i32⟩
  | 27 => ⟨S2048x3584, .i32⟩
  | 28 => ⟨S2048x3584, .i1⟩
  | 29 => ⟨S_, .i32⟩
  | 30 => ⟨S2048x3584, .i32⟩
  | 31 => ⟨S2048x3584, .i32⟩
  | 32 => ⟨S_, .i32⟩
  | 33 => ⟨S2048x3584, .i32⟩
  | 34 => ⟨S2048x3584, .i32⟩
  | 35 => ⟨S_, .i32⟩
  | 36 => ⟨S2048x3584, .i32⟩
  | 37 => ⟨S2048x3584, .i1⟩
  | 38 => ⟨S_, .i32⟩
  | 39 => ⟨S2048x3584, .i32⟩
  | 40 => ⟨S2048x3584, .i32⟩
  | 41 => ⟨S_, .i32⟩
  | 42 => ⟨S2048x3584, .i32⟩
  | 43 => ⟨S2048x3584, .i32⟩
  | 44 => ⟨S_, .i32⟩
  | 45 => ⟨S2048x3584, .i32⟩
  | 46 => ⟨S2048x3584, .i1⟩
  | 47 => ⟨S_, .bf16⟩
  | 48 => ⟨S_, .bf16⟩
  | 49 => ⟨S2048x3584, .bf16⟩
  | 50 => ⟨S2048x3584, .bf16⟩
  | 51 => ⟨S2048x3584, .bf16⟩
  | 52 => ⟨S_, .bf16⟩
  | 53 => ⟨S_, .bf16⟩
  | 54 => ⟨S2048x3584, .bf16⟩
  | 55 => ⟨S2048x3584, .bf16⟩
  | 56 => ⟨S2048x3584, .bf16⟩
  | 57 => ⟨S_, .bf16⟩
  | 58 => ⟨S_, .bf16⟩
  | 59 => ⟨S2048x3584, .bf16⟩
  | 60 => ⟨S2048x3584, .bf16⟩
  | 61 => ⟨S2048x3584, .bf16⟩
  | 62 => ⟨S_, .bf16⟩
  | 63 => ⟨S_, .bf16⟩
  | 64 => ⟨S2048x3584, .bf16⟩
  | 65 => ⟨S2048x3584, .bf16⟩
  | 66 => ⟨S2048x3584, .bf16⟩
  | 67 => ⟨S_, .bf16⟩
  | 68 => ⟨S_, .bf16⟩
  | 69 => ⟨S2048x3584, .bf16⟩
  | 70 => ⟨S2048x3584, .bf16⟩
  | 71 => ⟨S2048x3584, .bf16⟩
  | 72 => ⟨S_, .bf16⟩
  | 73 => ⟨S_, .bf16⟩
  | 74 => ⟨S2048x3584, .bf16⟩
  | 75 => ⟨S2048x3584, .bf16⟩
  | 76 => ⟨S2048x3584, .bf16⟩
  | 77 => ⟨S_, .bf16⟩
  | 78 => ⟨S_, .bf16⟩
  | 79 => ⟨S2048x3584, .bf16⟩
  | 80 => ⟨S2048x3584, .bf16⟩
  | 81 => ⟨S2048x3584, .bf16⟩
  | 82 => ⟨S_, .bf16⟩
  | 83 => ⟨S_, .bf16⟩
  | 84 => ⟨S2048x3584, .bf16⟩
  | 85 => ⟨S2048x3584, .bf16⟩
  | 86 => ⟨S2048x3584, .bf16⟩
  | 87 => ⟨S2048x3584, .bf16⟩
  | 88 => ⟨S2048x3584, .bf16⟩
  | 89 => ⟨S2048x3584, .bf16⟩
  | 90 => ⟨S2048x3584, .bf16⟩
  | 91 => ⟨S2048x3584, .bf16⟩
  | 92 => ⟨S2048x3584, .bf16⟩
  | 93 => ⟨S2048x3584, .bf16⟩
  | 94 => ⟨S32x64x3584, .bf16⟩
  | 95 => ⟨S32x1x3584, .bf16⟩
  | 96 => ⟨S32x64x3584, .bf16⟩
  | 97 => ⟨S32x64x3584, .bf16⟩
  | 98 => ⟨S2048x3584, .bf16⟩
  | 99 => ⟨S_, .i32⟩
  | 100 => ⟨S2048x3584, .i32⟩
  | 101 => ⟨S2048x3584, .i32⟩
  | 102 => ⟨S32x3584, .bf16⟩
  | 103 => ⟨S_, .i32⟩
  | 104 => ⟨S2048x3584, .i32⟩
  | 105 => ⟨S2048x3584, .i32⟩
  | 106 => ⟨S_, .i32⟩
  | 107 => ⟨S2048x3584, .i32⟩
  | 108 => ⟨S2048x3584, .i32⟩
  | 109 => ⟨S_, .i32⟩
  | 110 => ⟨S2048x3584, .i32⟩
  | 111 => ⟨S2048x3584, .i1⟩
  | 112 => ⟨S_, .i32⟩
  | 113 => ⟨S2048x3584, .i32⟩
  | 114 => ⟨S2048x3584, .i32⟩
  | 115 => ⟨S_, .i32⟩
  | 116 => ⟨S2048x3584, .i32⟩
  | 117 => ⟨S2048x3584, .i32⟩
  | 118 => ⟨S_, .i32⟩
  | 119 => ⟨S2048x3584, .i32⟩
  | 120 => ⟨S2048x3584, .i1⟩
  | 121 => ⟨S_, .i32⟩
  | 122 => ⟨S2048x3584, .i32⟩
  | 123 => ⟨S2048x3584, .i32⟩
  | 124 => ⟨S_, .i32⟩
  | 125 => ⟨S2048x3584, .i32⟩
  | 126 => ⟨S2048x3584, .i32⟩
  | 127 => ⟨S_, .i32⟩
  | _ => ⟨S2x256x2048, .bf16⟩

abbrev hbmTy0_1 (i : Nat) : BufTy := match i % 128 with
  | 0 => ⟨S2048x3584, .i32⟩
  | 1 => ⟨S2048x3584, .i1⟩
  | 2 => ⟨S_, .i32⟩
  | 3 => ⟨S2048x3584, .i32⟩
  | 4 => ⟨S2048x3584, .i32⟩
  | 5 => ⟨S_, .i32⟩
  | 6 => ⟨S2048x3584, .i32⟩
  | 7 => ⟨S2048x3584, .i32⟩
  | 8 => ⟨S_, .i32⟩
  | 9 => ⟨S2048x3584, .i32⟩
  | 10 => ⟨S2048x3584, .i1⟩
  | 11 => ⟨S_, .bf16⟩
  | 12 => ⟨S_, .bf16⟩
  | 13 => ⟨S2048x3584, .bf16⟩
  | 14 => ⟨S2048x3584, .bf16⟩
  | 15 => ⟨S2048x3584, .bf16⟩
  | 16 => ⟨S_, .bf16⟩
  | 17 => ⟨S_, .bf16⟩
  | 18 => ⟨S2048x3584, .bf16⟩
  | 19 => ⟨S2048x3584, .bf16⟩
  | 20 => ⟨S2048x3584, .bf16⟩
  | 21 => ⟨S_, .bf16⟩
  | 22 => ⟨S_, .bf16⟩
  | 23 => ⟨S2048x3584, .bf16⟩
  | 24 => ⟨S2048x3584, .bf16⟩
  | 25 => ⟨S2048x3584, .bf16⟩
  | 26 => ⟨S_, .bf16⟩
  | 27 => ⟨S_, .bf16⟩
  | 28 => ⟨S2048x3584, .bf16⟩
  | 29 => ⟨S2048x3584, .bf16⟩
  | 30 => ⟨S2048x3584, .bf16⟩
  | 31 => ⟨S_, .bf16⟩
  | 32 => ⟨S_, .bf16⟩
  | 33 => ⟨S2048x3584, .bf16⟩
  | 34 => ⟨S2048x3584, .bf16⟩
  | 35 => ⟨S2048x3584, .bf16⟩
  | 36 => ⟨S_, .bf16⟩
  | 37 => ⟨S_, .bf16⟩
  | 38 => ⟨S2048x3584, .bf16⟩
  | 39 => ⟨S2048x3584, .bf16⟩
  | 40 => ⟨S2048x3584, .bf16⟩
  | 41 => ⟨S_, .bf16⟩
  | 42 => ⟨S_, .bf16⟩
  | 43 => ⟨S2048x3584, .bf16⟩
  | 44 => ⟨S2048x3584, .bf16⟩
  | 45 => ⟨S2048x3584, .bf16⟩
  | 46 => ⟨S_, .bf16⟩
  | 47 => ⟨S_, .bf16⟩
  | 48 => ⟨S2048x3584, .bf16⟩
  | 49 => ⟨S2048x3584, .bf16⟩
  | 50 => ⟨S2048x3584, .bf16⟩
  | 51 => ⟨S2048x3584, .bf16⟩
  | 52 => ⟨S2048x3584, .bf16⟩
  | 53 => ⟨S2048x3584, .bf16⟩
  | 54 => ⟨S2048x3584, .bf16⟩
  | 55 => ⟨S2048x3584, .bf16⟩
  | 56 => ⟨S2048x3584, .bf16⟩
  | 57 => ⟨S2048x3584, .bf16⟩
  | 58 => ⟨S32x64x3584, .bf16⟩
  | 59 => ⟨S32x1x3584, .bf16⟩
  | 60 => ⟨S32x64x3584, .bf16⟩
  | 61 => ⟨S32x64x3584, .bf16⟩
  | 62 => ⟨S2048x3584, .bf16⟩
  | 63 => ⟨S2x256x3584, .f32⟩
  | 64 => ⟨S2x256x3584, .f32⟩
  | 65 => ⟨S2x256x3584x1, .f32⟩
  | 66 => ⟨S2x256x3584x1, .f32⟩
  | 67 => ⟨S2x256x3584x2, .f32⟩
  | 68 => ⟨S2x256x7168, .f32⟩
  | 69 => ⟨S2x256x16, .f32⟩
  | 70 => ⟨S2x256x16, .bf16⟩
  | 71 => ⟨S2x256x7168, .f32⟩
  | 72 => ⟨S_, .f32⟩
  | 73 => ⟨S2x256x7168, .f32⟩
  | 74 => ⟨S2x256x7168, .f32⟩
  | 75 => ⟨S2x256x7168, .f32⟩
  | 76 => ⟨S2x256x7168, .bf16⟩
  | 77 => ⟨S512x7168, .bf16⟩
  | _ => ⟨S2x256x2048, .bf16⟩

abbrev hbmTy (i : Nat) : BufTy := match i / 128 with
  | 0 => hbmTy0_0 i
  | 1 => hbmTy0_1 i
  | _ => ⟨S2x256x2048, .bf16⟩

abbrev bufTy : (tb : Table) → Fin (tcTables nBuf tb) → BufTy
  | .hbm, ⟨i, _⟩ => hbmTy i
  | _, _ => ⟨S2x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_c_3 : Ref sig .tc := ⟨.hbm, 20, rfl⟩
abbrev main_v11 : Ref sig .tc := ⟨.hbm, 21, rfl⟩
abbrev main_v12 : Ref sig .tc := ⟨.hbm, 22, rfl⟩
abbrev main_c_4 : Ref sig .tc := ⟨.hbm, 23, rfl⟩
abbrev main_v13 : Ref sig .tc := ⟨.hbm, 24, rfl⟩
abbrev main_v14 : Ref sig .tc := ⟨.hbm, 25, rfl⟩
abbrev main_c_5 : Ref sig .tc := ⟨.hbm, 26, rfl⟩
abbrev main_v15 : Ref sig .tc := ⟨.hbm, 27, rfl⟩
abbrev main_v16 : Ref sig .tc := ⟨.hbm, 28, rfl⟩
abbrev main_c_6 : Ref sig .tc := ⟨.hbm, 29, rfl⟩
abbrev main_v17 : Ref sig .tc := ⟨.hbm, 30, rfl⟩
abbrev main_v18 : Ref sig .tc := ⟨.hbm, 31, rfl⟩
abbrev main_c_7 : Ref sig .tc := ⟨.hbm, 32, rfl⟩
abbrev main_v19 : Ref sig .tc := ⟨.hbm, 33, rfl⟩
abbrev main_v20 : Ref sig .tc := ⟨.hbm, 34, rfl⟩
abbrev main_c_8 : Ref sig .tc := ⟨.hbm, 35, rfl⟩
abbrev main_v21 : Ref sig .tc := ⟨.hbm, 36, rfl⟩
abbrev main_v22 : Ref sig .tc := ⟨.hbm, 37, rfl⟩
abbrev main_c_9 : Ref sig .tc := ⟨.hbm, 38, rfl⟩
abbrev main_v23 : Ref sig .tc := ⟨.hbm, 39, rfl⟩
abbrev main_v24 : Ref sig .tc := ⟨.hbm, 40, rfl⟩
abbrev main_c_10 : Ref sig .tc := ⟨.hbm, 41, rfl⟩
abbrev main_v25 : Ref sig .tc := ⟨.hbm, 42, rfl⟩
abbrev main_v26 : Ref sig .tc := ⟨.hbm, 43, rfl⟩
abbrev main_c_11 : Ref sig .tc := ⟨.hbm, 44, rfl⟩
abbrev main_v27 : Ref sig .tc := ⟨.hbm, 45, rfl⟩
abbrev main_v28 : Ref sig .tc := ⟨.hbm, 46, rfl⟩
abbrev main_cst : Ref sig .tc := ⟨.hbm, 47, rfl⟩
abbrev main_cst_12 : Ref sig .tc := ⟨.hbm, 48, rfl⟩
abbrev main_call0_v0 : Ref sig .tc := ⟨.hbm, 49, rfl⟩
abbrev main_call0_v1 : Ref sig .tc := ⟨.hbm, 50, rfl⟩
abbrev main_v29 : Ref sig .tc := ⟨.hbm, 51, rfl⟩
abbrev main_cst_13 : Ref sig .tc := ⟨.hbm, 52, rfl⟩
abbrev main_cst_14 : Ref sig .tc := ⟨.hbm, 53, rfl⟩
abbrev main_call1_v0 : Ref sig .tc := ⟨.hbm, 54, rfl⟩
abbrev main_call1_v1 : Ref sig .tc := ⟨.hbm, 55, rfl⟩
abbrev main_v30 : Ref sig .tc := ⟨.hbm, 56, rfl⟩
abbrev main_cst_15 : Ref sig .tc := ⟨.hbm, 57, rfl⟩
abbrev main_cst_16 : Ref sig .tc := ⟨.hbm, 58, rfl⟩
abbrev main_call2_v0 : Ref sig .tc := ⟨.hbm, 59, rfl⟩
abbrev main_call2_v1 : Ref sig .tc := ⟨.hbm, 60, rfl⟩
abbrev main_v31 : Ref sig .tc := ⟨.hbm, 61, rfl⟩
abbrev main_cst_17 : Ref sig .tc := ⟨.hbm, 62, rfl⟩
abbrev main_cst_18 : Ref sig .tc := ⟨.hbm, 63, rfl⟩
abbrev main_call3_v0 : Ref sig .tc := ⟨.hbm, 64, rfl⟩
abbrev main_call3_v1 : Ref sig .tc := ⟨.hbm, 65, rfl⟩
abbrev main_v32 : Ref sig .tc := ⟨.hbm, 66, rfl⟩
abbrev main_cst_19 : Ref sig .tc := ⟨.hbm, 67, rfl⟩
abbrev main_cst_20 : Ref sig .tc := ⟨.hbm, 68, rfl⟩
abbrev main_call4_v0 : Ref sig .tc := ⟨.hbm, 69, rfl⟩
abbrev main_call4_v1 : Ref sig .tc := ⟨.hbm, 70, rfl⟩
abbrev main_v33 : Ref sig .tc := ⟨.hbm, 71, rfl⟩
abbrev main_cst_21 : Ref sig .tc := ⟨.hbm, 72, rfl⟩
abbrev main_cst_22 : Ref sig .tc := ⟨.hbm, 73, rfl⟩
abbrev main_call5_v0 : Ref sig .tc := ⟨.hbm, 74, rfl⟩
abbrev main_call5_v1 : Ref sig .tc := ⟨.hbm, 75, rfl⟩
abbrev main_v34 : Ref sig .tc := ⟨.hbm, 76, rfl⟩
abbrev main_cst_23 : Ref sig .tc := ⟨.hbm, 77, rfl⟩
abbrev main_cst_24 : Ref sig .tc := ⟨.hbm, 78, rfl⟩
abbrev main_call6_v0 : Ref sig .tc := ⟨.hbm, 79, rfl⟩
abbrev main_call6_v1 : Ref sig .tc := ⟨.hbm, 80, rfl⟩
abbrev main_v35 : Ref sig .tc := ⟨.hbm, 81, rfl⟩
abbrev main_cst_25 : Ref sig .tc := ⟨.hbm, 82, rfl⟩
abbrev main_cst_26 : Ref sig .tc := ⟨.hbm, 83, rfl⟩
abbrev main_call7_v0 : Ref sig .tc := ⟨.hbm, 84, rfl⟩
abbrev main_call7_v1 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_c_27 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_c_28 : Ref sig .tc := ⟨.hbm, 103, rfl⟩
abbrev main_v52 : Ref sig .tc := ⟨.hbm, 104, rfl⟩
abbrev main_v53 : Ref sig .tc := ⟨.hbm, 105, rfl⟩
abbrev main_c_29 : Ref sig .tc := ⟨.hbm, 106, rfl⟩
abbrev main_v54 : Ref sig .tc := ⟨.hbm, 107, rfl⟩
abbrev main_v55 : Ref sig .tc := ⟨.hbm, 108, rfl⟩
abbrev main_c_30 : Ref sig .tc := ⟨.hbm, 109, rfl⟩
abbrev main_v56 : Ref sig .tc := ⟨.hbm, 110, rfl⟩
abbrev main_v57 : Ref sig .tc := ⟨.hbm, 111, rfl⟩
abbrev main_c_31 : Ref sig .tc := ⟨.hbm, 112, rfl⟩
abbrev main_v58 : Ref sig .tc := ⟨.hbm, 113, rfl⟩
abbrev main_v59 : Ref sig .tc := ⟨.hbm, 114, rfl⟩
abbrev main_c_32 : Ref sig .tc := ⟨.hbm, 115, rfl⟩
abbrev main_v60 : Ref sig .tc := ⟨.hbm, 116, rfl⟩
abbrev main_v61 : Ref sig .tc := ⟨.hbm, 117, rfl⟩
abbrev main_c_33 : Ref sig .tc := ⟨.hbm, 118, rfl⟩
abbrev main_v62 : Ref sig .tc := ⟨.hbm, 119, rfl⟩
abbrev main_v63 : Ref sig .tc := ⟨.hbm, 120, rfl⟩
abbrev main_c_34 : Ref sig .tc := ⟨.hbm, 121, rfl⟩
abbrev main_v64 : Ref sig .tc := ⟨.hbm, 122, rfl⟩
abbrev main_v65 : Ref sig .tc := ⟨.hbm, 123, rfl⟩
abbrev main_c_35 : Ref sig .tc := ⟨.hbm, 124, rfl⟩
abbrev main_v66 : Ref sig .tc := ⟨.hbm, 125, rfl⟩
abbrev main_v67 : Ref sig .tc := ⟨.hbm, 126, rfl⟩
abbrev main_c_36 : Ref sig .tc := ⟨.hbm, 127, rfl⟩
abbrev main_v68 : Ref sig .tc := ⟨.hbm, 128, rfl⟩
abbrev main_v69 : Ref sig .tc := ⟨.hbm, 129, rfl⟩
abbrev main_c_37 : Ref sig .tc := ⟨.hbm, 130, rfl⟩
abbrev main_v70 : Ref sig .tc := ⟨.hbm, 131, rfl⟩
abbrev main_v71 : Ref sig .tc := ⟨.hbm, 132, rfl⟩
abbrev main_c_38 : Ref sig .tc := ⟨.hbm, 133, rfl⟩
abbrev main_v72 : Ref sig .tc := ⟨.hbm, 134, rfl⟩
abbrev main_v73 : Ref sig .tc := ⟨.hbm, 135, rfl⟩
abbrev main_c_39 : Ref sig .tc := ⟨.hbm, 136, rfl⟩
abbrev main_v74 : Ref sig .tc := ⟨.hbm, 137, rfl⟩
abbrev main_v75 : Ref sig .tc := ⟨.hbm, 138, rfl⟩
abbrev main_cst_40 : Ref sig .tc := ⟨.hbm, 139, rfl⟩
abbrev main_cst_41 : Ref sig .tc := ⟨.hbm, 140, rfl⟩
abbrev main_call15_v0 : Ref sig .tc := ⟨.hbm, 141, rfl⟩
abbrev main_call15_v1 : Ref sig .tc := ⟨.hbm, 142, rfl⟩
abbrev main_v76 : Ref sig .tc := ⟨.hbm, 143, rfl⟩
abbrev main_cst_42 : Ref sig .tc := ⟨.hbm, 144, rfl⟩
abbrev main_cst_43 : Ref sig .tc := ⟨.hbm, 145, rfl⟩
abbrev main_call16_v0 : Ref sig .tc := ⟨.hbm, 146, rfl⟩
abbrev main_call16_v1 : Ref sig .tc := ⟨.hbm, 147, rfl⟩
abbrev main_v77 : Ref sig .tc := ⟨.hbm, 148, rfl⟩
abbrev main_cst_44 : Ref sig .tc := ⟨.hbm, 149, rfl⟩
abbrev main_cst_45 : Ref sig .tc := ⟨.hbm, 150, rfl⟩
abbrev main_call17_v0 : Ref sig .tc := ⟨.hbm, 151, rfl⟩
abbrev main_call17_v1 : Ref sig .tc := ⟨.hbm, 152, rfl⟩
abbrev main_v78 : Ref sig .tc := ⟨.hbm, 153, rfl⟩
abbrev main_cst_46 : Ref sig .tc := ⟨.hbm, 154, rfl⟩
abbrev main_cst_47 : Ref sig .tc := ⟨.hbm, 155, rfl⟩
abbrev main_call18_v0 : Ref sig .tc := ⟨.hbm, 156, rfl⟩
abbrev main_call18_v1 : Ref sig .tc := ⟨.hbm, 157, rfl⟩
abbrev main_v79 : Ref sig .tc := ⟨.hbm, 158, rfl⟩
abbrev main_cst_48 : Ref sig .tc := ⟨.hbm, 159, rfl⟩
abbrev main_cst_49 : Ref sig .tc := ⟨.hbm, 160, rfl⟩
abbrev main_call19_v0 : Ref sig .tc := ⟨.hbm, 161, rfl⟩
abbrev main_call19_v1 : Ref sig .tc := ⟨.hbm, 162, rfl⟩
abbrev main_v80 : Ref sig .tc := ⟨.hbm, 163, rfl⟩
abbrev main_cst_50 : Ref sig .tc := ⟨.hbm, 164, rfl⟩
abbrev main_cst_51 : Ref sig .tc := ⟨.hbm, 165, rfl⟩
abbrev main_call20_v0 : Ref sig .tc := ⟨.hbm, 166, rfl⟩
abbrev main_call20_v1 : Ref sig .tc := ⟨.hbm, 167, rfl⟩
abbrev main_v81 : Ref sig .tc := ⟨.hbm, 168, rfl⟩
abbrev main_cst_52 : Ref sig .tc := ⟨.hbm, 169, rfl⟩
abbrev main_cst_53 : Ref sig .tc := ⟨.hbm, 170, rfl⟩
abbrev main_call21_v0 : Ref sig .tc := ⟨.hbm, 171, rfl⟩
abbrev main_call21_v1 : Ref sig .tc := ⟨.hbm, 172, rfl⟩
abbrev main_v82 : Ref sig .tc := ⟨.hbm, 173, rfl⟩
abbrev main_cst_54 : Ref sig .tc := ⟨.hbm, 174, rfl⟩
abbrev main_cst_55 : Ref sig .tc := ⟨.hbm, 175, rfl⟩
abbrev main_call22_v0 : Ref sig .tc := ⟨.hbm, 176, rfl⟩
abbrev main_call22_v1 : Ref sig .tc := ⟨.hbm, 177, rfl⟩
abbrev main_v83 : Ref sig .tc := ⟨.hbm, 178, rfl⟩
abbrev main_v84 : Ref sig .tc := ⟨.hbm, 179, rfl⟩
abbrev main_v85 : Ref sig .tc := ⟨.hbm, 180, rfl⟩
abbrev main_v86 : Ref sig .tc := ⟨.hbm, 181, rfl⟩
abbrev main_v87 : Ref sig .tc := ⟨.hbm, 182, rfl⟩
abbrev main_v88 : Ref sig .tc := ⟨.hbm, 183, rfl⟩
abbrev main_v89 : Ref sig .tc := ⟨.hbm, 184, rfl⟩
abbrev main_v90 : Ref sig .tc := ⟨.hbm, 185, rfl⟩
abbrev main_v91 : Ref sig .tc := ⟨.hbm, 186, rfl⟩
abbrev main_v92 : Ref sig .tc := ⟨.hbm, 187, rfl⟩
abbrev main_v93 : Ref sig .tc := ⟨.hbm, 188, rfl⟩
abbrev main_v94 : Ref sig .tc := ⟨.hbm, 189, rfl⟩
abbrev main_v95 : Ref sig .tc := ⟨.hbm, 190, rfl⟩
abbrev main_v96 : Ref sig .tc := ⟨.hbm, 191, rfl⟩
abbrev main_v97 : Ref sig .tc := ⟨.hbm, 192, rfl⟩
abbrev main_v98 : Ref sig .tc := ⟨.hbm, 193, rfl⟩
abbrev main_v99 : Ref sig .tc := ⟨.hbm, 194, rfl⟩
abbrev main_v100 : Ref sig .tc := ⟨.hbm, 195, rfl⟩
abbrev main_v101 : Ref sig .tc := ⟨.hbm, 196, rfl⟩
abbrev main_v102 : Ref sig .tc := ⟨.hbm, 197, rfl⟩
abbrev main_v103 : Ref sig .tc := ⟨.hbm, 198, rfl⟩
abbrev main_v104 : Ref sig .tc := ⟨.hbm, 199, rfl⟩
abbrev main_cst_56 : Ref sig .tc := ⟨.hbm, 200, rfl⟩
abbrev main_v105 : Ref sig .tc := ⟨.hbm, 201, rfl⟩
abbrev main_v106 : Ref sig .tc := ⟨.hbm, 202, rfl⟩
abbrev main_v107 : Ref sig .tc := ⟨.hbm, 203, rfl⟩
abbrev main_v108 : Ref sig .tc := ⟨.hbm, 204, rfl⟩
abbrev main_v109 : Ref sig .tc := ⟨.hbm, 205, rfl⟩

abbrev nD : Nat := 1
abbrev τ : Topo := Topo.v7x

variable {F : FTy → Type} [FloatOps F]
-- ==== Proof.Bits.lean ====
/- The bit arithmetic of the decoding: four bytes of packed codes read as one 32-bit word, the two 4-bit codes of a byte
   cut out of it, and a code split into its low three bits and its top bit. -/
module

public import Idealize.ShloMosaic.Lib.BitcastFour
public import Idealize.ShloMosaic.PureOps.Ideal.Laws

@[expose] public section

namespace Cert.KernelIdeal.Dec

open Idealize.ShloMosaic

/-- The bit patterns of the sixteen levels, as bf16 numbers. -/
def levelBits (n : BitVec 4) : BitVec 16 :=
  [0xbf80#16, 0xbf32#16, 0xbf06#16, 0xbeca#16, 0xbe92#16, 0xbe3d#16, 0xbdba#16, 0x0000#16,
    0x3da3#16, 0x3e25#16, 0x3e7c#16, 0x3ead#16, 0x3ee2#16, 0x3f10#16, 0x3f39#16, 0x3f80#16].getD n.toNat 0#16

/-- The level of a code: a real number. -/
noncomputable def level (n : BitVec 4) : Ideal .bf16 := FloatOps.ofBits .bf16 (levelBits n)

/-- The code of byte `b`: its low four bits for an even column, its high four for an odd one. -/
def code (b : BitVec 8) (odd : Nat) : BitVec 4 := b.extractLsb' (4 * odd) 4

/-- Four bits of a word from bit `s` on. -/
def nib (v : BitVec 32) (s : Nat) : BitVec 4 := v.extractLsb' s 4

theorem nib_getLsbD (v : BitVec 32) (s i : Nat) : (nib v s).getLsbD i = (decide (i < 4) && v.getLsbD (s + i)) := by
  unfold nib; rw [BitVec.getLsbD_extractLsb']

/-- A shift by zero is no shift. -/
theorem shr_zero (v : BitVec 32) : IntOp.shrui .vector v (BitVec.ofNat 32 0) = v := by simp [IntOp.shrui]

/-- A shift of a word in range moves its four-bit fields. -/
theorem nib_shr (v : BitVec 32) (a s : Nat) (ha : a < 32) :
    nib (IntOp.shrui .vector v (BitVec.ofNat 32 a)) s = nib v (a + s) := by
  have h : (BitVec.ofNat 32 a).toNat = a := by simp; omega
  apply BitVec.eq_of_getLsbD_eq
  intro i hi
  simp only [nib_getLsbD, IntOp.shrui, h, ha, if_true]
  rw [BitVec.ushiftRight_eq', h, BitVec.getLsbD_ushiftRight, Nat.add_assoc]

/-- The low three bits of the field at `s`. -/
theorem low_three (v : BitVec 32) (s : Nat) (hs : s < 32) :
    (IntOp.andi (IntOp.shrui .vector v (BitVec.ofNat 32 s)) 7#32).toNat = (nib v s).toNat % 8 := by
  have h : (BitVec.ofNat 32 s).toNat = s := by simp; omega
  have e : IntOp.andi (IntOp.shrui .vector v (BitVec.ofNat 32 s)) 7#32 = ((nib v s) &&& 7#4).setWidth 32 := by
    apply BitVec.eq_of_getLsbD_eq
    intro i hi
    simp only [IntOp.andi, IntOp.shrui, h, hs, if_true]
    rw [BitVec.ushiftRight_eq', h, BitVec.getLsbD_and, BitVec.getLsbD_ushiftRight, BitVec.getLsbD_setWidth,
      BitVec.getLsbD_and, nib_getLsbD]
    rcases Nat.lt_or_ge i 4 with h4 | h4
    · interval_cases i <;> simp
    · have h7 : (7#32).getLsbD i = false := by interval_cases i <;> rfl
      have h74 : (7#4).getLsbD i = false := BitVec.getLsbD_of_ge _ _ h4
      simp [h7, h74]
  rw [e]
  generalize nib v s = n
  revert n; decide

/-- The top bit of the field at `s`, tested under its mask. -/
theorem top_bit (v m : BitVec 32) (s : Nat) (hm : m = 8#32 <<< s) (hs : s + 4 ≤ 32) :
    IntOp.cmpi .ne (IntOp.andi v m) 0#32 = BitVec.ofBool (decide (8 ≤ (nib v s).toNat)) := by
  subst hm
  have h8 : ∀ n : BitVec 4, decide (8 ≤ n.toNat) = n.getLsbD 3 := by decide
  have h8s (i : Nat) (hi : i < 32) : (8#32 <<< s).getLsbD i = decide (i = s + 3) := by
    rw [BitVec.getLsbD_shiftLeft]
    by_cases hlt : i < s
    · simp [hlt]; omega
    · obtain ⟨d, rfl⟩ := Nat.exists_eq_add_of_le (Nat.le_of_not_lt hlt)
      have hd : (8#32).getLsbD d = decide (d = 3) := by
        have : d < 32 := by omega
        interval_cases d <;> rfl
      simp [hd, hi]
  rw [h8, nib_getLsbD]
  simp only [IntOp.cmpi, IntOp.andi]
  congr 1
  by_cases hb : v.getLsbD (s + 3) = true
  · simp only [hb]
    simp only [bne_iff_ne, ne_eq, decide_true, Bool.and_true, Bool.decide_true, Nat.reduceLT]
    intro h0
    have := congrArg (fun x => x.getLsbD (s + 3)) h0
    simp [BitVec.getLsbD_and, hb, h8s (s + 3) (by omega)] at this
  · have hb' : v.getLsbD (s + 3) = false := by simpa using hb
    have : v &&& 8#32 <<< s = 0#32 := by
      apply BitVec.eq_of_getLsbD_eq
      intro i hi
      rw [BitVec.getLsbD_and, h8s i hi]
      by_cases hi' : i = s + 3
      · subst hi'; simp [hb']
      · simp [hi']
    simp [this, hb']

/-- The top bit of a field of one half of a word, tested in the half. -/
theorem top_bit_half (v : BitVec 32) (p : Fin 2) (m : BitVec 16) (s : Nat) (hm : m = 8#16 <<< s) (hs : s + 4 ≤ 16) :
    IntOp.cmpi .ne (IntOp.andi (v.extractLsb' (16 * p.val) 16) m) 0#16 = BitVec.ofBool (decide (8 ≤ (nib v (16 * p.val + s)).toNat)) := by
  have e := top_bit v ((m.setWidth 32) <<< (16 * p.val)) (16 * p.val + s) (by
    subst hm
    have h : ∀ p : Fin 2, ∀ s : Fin 13, ((8#16 <<< s.val).setWidth 32) <<< (16 * p.val) = 8#32 <<< (16 * p.val + s.val) := by decide
    exact h p ⟨s, by omega⟩) (by omega)
  rw [← e]
  simp only [IntOp.cmpi, IntOp.andi]
  congr 1
  have k : (v.extractLsb' (16 * p.val) 16 &&& m = 0#16) ↔ (v &&& (m.setWidth 32) <<< (16 * p.val) = 0#32) := by
    constructor
    · intro h
      apply BitVec.eq_of_getLsbD_eq
      intro i hi
      rw [BitVec.getLsbD_and, BitVec.getLsbD_shiftLeft, BitVec.getLsbD_setWidth]
      by_cases hlt : i < 16 * p.val
      · simp [hlt]
      · have := congrArg (fun x => x.getLsbD (i - 16 * p.val)) h
        simp only [BitVec.getLsbD_and, BitVec.getLsbD_extractLsb'] at this
        by_cases h16 : i - 16 * p.val < 16
        · rw [Nat.add_sub_of_le (by omega)] at this
          simpa [hlt, h16, hi, show i - 16 * p.val < 32 by omega] using this
        · simp [BitVec.getLsbD_of_ge m (i - 16 * p.val) (by omega)]
    · intro h
      apply BitVec.eq_of_getLsbD_eq
      intro i hi
      have := congrArg (fun x => x.getLsbD (16 * p.val + i)) h
      have hb : 16 * p.val + i < 32 := by omega
      simp only [BitVec.getLsbD_and, BitVec.getLsbD_shiftLeft, BitVec.getLsbD_setWidth] at this
      rw [BitVec.getLsbD_and, BitVec.getLsbD_extractLsb']
      simpa [hi, hb, show i < 32 by omega] using this
  rw [Bool.eq_iff_iff, bne_iff_ne, bne_iff_ne, ne_eq, ne_eq, k]

/-- The codes of bytes `k` and `k + 2` brought side by side: seven bits that number them in a table of 128, the second
    one without its top bit … -/
theorem pair_index (v : BitVec 32) (k : Nat) (hk : k < 2) (z : BitVec 32)
    (hz : z = IntOp.ori (IntOp.andi v 252645135#32) (IntOp.shrui .vector (IntOp.andi v 252645135#32) 12#32)) (i : Nat)
    (hi : i < 8) : z.getLsbD (8 * k + i) = if i < 4 then (nib v (8 * k)).getLsbD i else (nib v (8 * k + 16)).getLsbD (i - 4) := by
  subst hz
  simp only [IntOp.ori, IntOp.andi, IntOp.shrui, BitVec.getLsbD_or, BitVec.getLsbD_and, nib_getLsbD]
  rw [if_pos (by decide), BitVec.ushiftRight_eq', BitVec.getLsbD_ushiftRight, BitVec.getLsbD_and]
  interval_cases k <;> interval_cases i <;> simp <;> rfl

/-- … the index itself, -/
theorem pair_low (z : BitVec 32) (a b : BitVec 4) (s : Nat) (hs : s < 32)
    (h : ∀ i < 8, z.getLsbD (s + i) = if i < 4 then a.getLsbD i else b.getLsbD (i - 4)) :
    (IntOp.andi (IntOp.shrui .vector z (BitVec.ofNat 32 s)) 127#32).toNat = a.toNat + 16 * (b.toNat % 8) := by
  have hn : (BitVec.ofNat 32 s).toNat = s := by simp; omega
  have e : IntOp.andi (IntOp.shrui .vector z (BitVec.ofNat 32 s)) 127#32 = ((b ++ a) &&& 127#8).setWidth 32 := by
    apply BitVec.eq_of_getLsbD_eq
    intro i hi
    simp only [IntOp.andi, IntOp.shrui, hn, hs, if_true]
    rw [BitVec.ushiftRight_eq', hn, BitVec.getLsbD_and, BitVec.getLsbD_ushiftRight, BitVec.getLsbD_setWidth,
      BitVec.getLsbD_and, BitVec.getLsbD_append]
    rcases Nat.lt_or_ge i 8 with h8 | h8
    · rw [h i h8]
      interval_cases i <;> simp
    · have h7 : (127#32).getLsbD i = false := by interval_cases i <;> rfl
      have h74 : (127#8).getLsbD i = false := BitVec.getLsbD_of_ge _ _ h8
      simp [h7, h74]
  rw [e]
  clear e h
  revert a b; decide

/-- … and the top bit of the second code. -/
theorem pair_top (z : BitVec 32) (a b : BitVec 4) (s : Nat) (hs : s + 8 ≤ 32)
    (h : ∀ i < 8, z.getLsbD (s + i) = if i < 4 then a.getLsbD i else b.getLsbD (i - 4)) :
    IntOp.cmpi .ne (IntOp.andi (IntOp.shrui .vector z (BitVec.ofNat 32 s)) 128#32) 0#32 = BitVec.ofBool (decide (8 ≤ b.toNat)) := by
  have e := top_bit (IntOp.shrui .vector z (BitVec.ofNat 32 s)) 128#32 4 (by decide) (by decide)
  rw [e, nib_shr z s 4 (by omega)]
  congr 3
  have : nib z (s + 4) = b := by
    apply BitVec.eq_of_getLsbD_eq
    intro i hi
    rw [nib_getLsbD, Nat.add_assoc, h (4 + i) (by omega), if_neg (by omega)]
    simp [hi]
  rw [this]

end Cert.KernelIdeal.Dec
-- ==== Proof.Decode.lean ====
/- One loop trip of the kernel decodes eight by two rows of 128 columns at a time, in two ways: an even half of a pair of
   column tiles by looking the low three bits up in two scaled tables, an odd half by looking seven bits up in a table of
   pairs. Here are the two ways as functions of what the trip loads, and what both of them are at an index: the level of
   the code times the scale. -/
module

public import proofs.«01_k».proof.Proof.Bits
public import proofs.«01_k».proof.Proof.Gen.KernelIdeal.Skeleton
public import Idealize.ShloMosaic.Lib.Bf16Pair
public import Idealize.ShloMosaic.Lib.Bf16PairInverse
public import Idealize.ShloMosaic.Lib.BitcastPair
public import Idealize.ShloMosaic.Lib.ValueIdx
public import Idealize.ShloMosaic.Lib.Pipeline.Value

@[expose] public section

noncomputable section

namespace Cert.KernelIdeal.Dec

open Idealize.ShloMosaic Idealize.ShloMosaic.ValueIdx Cert.KernelIdeal.Gen

/-! ## Reading the pieces' operations at an index -/

/-- A gather along the rows' axis. -/
theorem gather_lane {α : Type} (x : S8x128.Idx → α) (idx : IVec S8x128 32) (r : Fin 8) (l : Fin 128) (n : Fin 128)
    (hn : (idx (ix2 r l)).toNat = n.val) : dynamicGather 1 x idx (ix2 r l) = x (ix2 r n) := by
  unfold dynamicGather
  refine congrArg x (funext fun a => ?_)
  match a with
  | ⟨0, _⟩ => rfl
  | ⟨1, _⟩ => exact Fin.ext (by have := n.isLt; show (idx (ix2 r l)).toNat % 128 = n.val; omega)

/-- A gather along the columns' axis. -/
theorem gather_row {α : Type} (x : S8x128.Idx → α) (idx : IVec S8x128 32) (r : Fin 8) (l : Fin 128) (n : Fin 8)
    (hn : (idx (ix2 r l)).toNat = n.val) : dynamicGather 0 x idx (ix2 r l) = x (ix2 n l) := by
  unfold dynamicGather
  refine congrArg x (funext fun a => ?_)
  match a with
  | ⟨0, _⟩ => exact Fin.ext (by have := n.isLt; show (idx (ix2 r l)).toNat % 8 = n.val; omega)
  | ⟨1, _⟩ => rfl

/-- Rows of one parity. -/
theorem parity_apply {α : Type} (p : Fin 2) (x : S16x128.Idx → α) (r : Fin 8) (l : Fin 128) :
    rowsOfParity p S8x128 x bitcasts_S16x128_w16_S8x128_w32 (ix2 r l) = x (ix2 ⟨2 * r.val + p.val, by omega⟩ l) := by
  unfold rowsOfParity
  refine congrArg x (funext fun a => ?_)
  match a with
  | ⟨0, _⟩ => rfl
  | ⟨1, _⟩ => rfl

/-- A word's halves are two rows. -/
theorem halves_apply (x : IVec S8x128 32) (r : Fin 8) (p : Fin 2) (l : Fin 128) :
    bitcast S16x128 16 x bitcasts_S8x128_w32_S16x128_w16 (ix2 ⟨2 * r.val + p.val, by omega⟩ l) = (x (ix2 r l)).extractLsb' (16 * p.val) 16 := by
  rw [bitcast_32_16]
  have hrow : S16x128.row (ix2 (⟨2 * r.val + p.val, by omega⟩ : Fin 16) l) = 2 * r.val + p.val := rfl
  have h2 : S16x128.row (ix2 (⟨2 * r.val + p.val, by omega⟩ : Fin 16) l) % 2 = p.val := by rw [hrow]; omega
  rw [h2]
  congr 2
  funext a
  match a with
  | ⟨0, _⟩ => exact Fin.ext ((Shape.Bitcasts.srcIdx_row _ _ _ _ ⟨0, Nat.zero_lt_two⟩ rfl).trans (by show (2 * r.val + p.val) / 2 = r.val; omega))
  | ⟨1, _⟩ => exact Fin.ext (Shape.Bitcasts.srcIdx_other _ _ _ _ ⟨1, Nat.one_lt_two⟩ (by decide))

/-- Two sets of eight rows, one above the other row by row. -/
def stored {α : Type} (lo hi : S8x128.Idx → α) : S8x2x128.Idx → α :=
  interleaveRows S8x2x128 (shapeCast S8x1x128 lo shapeCasts_S8x128_S8x1x128) (shapeCast S8x1x128 hi shapeCasts_S8x128_S8x1x128)
    bitcasts_S8x2x128_w16_S8x1x128_w32

theorem unit_apply {α : Type} (x : S8x128.Idx → α) (j : S8x1x128.Idx) (r : Fin 8) (l : Fin 128) (h0 : (j 0).val = r.val) (h2 : (j 2).val = l.val) :
    shapeCast S8x1x128 x shapeCasts_S8x128_S8x1x128 j = x (ix2 r l) := by
  refine shapeCast_apply x _ j (ix2 r l) ?_
  rw [Shape.rowMajor_val_two, Shape.rowMajor_val_three]
  have h1 : (j 1).val = 0 := by have : (j 1).val < 1 := (j 1).isLt; omega
  rw [h0, h1, h2]
  simp

theorem stored_apply {α : Type} (lo hi : S8x128.Idx → α) (r : Fin 8) (h : Fin 2) (l : Fin 128) :
    stored lo hi (ix3 r h l) = if h.val = 0 then lo (ix2 r l) else hi (ix2 r l) := by
  unfold stored interleaveRows
  dsimp only
  have hrow : S8x2x128.row (ix3 r h l) = h.val := rfl
  rw [hrow]
  rw [unit_apply lo _ r l rfl rfl, unit_apply hi _ r l rfl rfl]
  have : h.val % 2 = h.val := by omega
  rw [this]

/-- An index through a third axis and back. -/
def again (i : IVec S8x128 32) : IVec S8x128 32 :=
  shapeCast S8x128 (shapeCast S8x128x1 i shapeCasts_S8x128_S8x128x1) shapeCasts_S8x128x1_S8x128

theorem again_eq (i : IVec S8x128 32) : again i = i := shapeCast_shapeCast i _ _

/-! ## The codes -/

/-- The words of the codes of a tile's half `p`: every byte in the two columns it holds, its own code lowest. -/
def words (p : BitVec 32) (w : Vec Ideal S32x128 .i8) : IVec S8x128 32 :=
  shrui (dynamicGather 1 (bitcast S8x128 32 w bitcasts_S32x128_w8_S8x128_w32) (again (addi k0_pay137 (broadcast S8x128 p)))) k0_pay138

theorem lane_half : ∀ (p : Fin 2) (l : Fin 128),
    (IntOp.addi (IntOp.shrsi .vector (BitVec.ofNat 32 l.val) 1#32) (BitVec.ofNat 32 (64 * p.val))).toNat = 64 * p.val + l.val / 2 := by
  decide +kernel

theorem lane_shift : ∀ l : Fin 128, IntOp.muli (IntOp.andi (BitVec.ofNat 32 l.val) 1#32) 4#32 = BitVec.ofNat 32 (4 * (l.val % 2)) := by
  decide +kernel

theorem words_nib (p : Fin 2) (w : Vec Ideal S32x128 .i8) (r : Fin 8) (l : Fin 128) (t : Fin 4) :
    nib (words (BitVec.ofNat 32 (64 * p.val)) w (ix2 r l)) (8 * t.val)
      = code (w (ix2 (⟨4 * r.val + t.val, by omega⟩ : Fin 32) (⟨64 * p.val + l.val / 2, by omega⟩ : Fin 128))) (l.val % 2) := by
  have e : words (BitVec.ofNat 32 (64 * p.val)) w (ix2 r l)
      = IntOp.shrui .vector (bitcast S8x128 32 w bitcasts_S32x128_w8_S8x128_w32 (ix2 r (⟨64 * p.val + l.val / 2, by omega⟩ : Fin 128)))
          (BitVec.ofNat 32 (4 * (l.val % 2))) := by
    unfold words
    rw [again_eq]
    show IntOp.shrui .vector (dynamicGather 1 _ _ (ix2 r l)) (k0_pay138 (ix2 r l)) = _
    rw [gather_lane _ _ r l ⟨64 * p.val + l.val / 2, by omega⟩]
    · congr 1
      show IntOp.muli (IntOp.andi (iota .tc S8x128 32 [1] iota_S8x128_d1_w32 (ix2 r l)) 1#32) 4#32 = _
      rw [iota_single_apply]
      exact lane_shift l
    · show (IntOp.addi (IntOp.shrsi .vector (iota .tc S8x128 32 [1] iota_S8x128_d1_w32 (ix2 r l)) 1#32) (BitVec.ofNat 32 (64 * p.val))).toNat = _
      rw [iota_single_apply]
      exact lane_half p l
  rw [e, nib_shr _ _ _ (by omega)]
  apply BitVec.eq_of_getLsbD_eq
  intro i hi
  rw [nib_getLsbD, decide_eq_true hi, Bool.true_and,
    bitcast_8_32_getLsbD_ix2 w _ r _ _ (by omega) (⟨4 * r.val + t.val, by omega⟩ : Fin 32) (by show 4 * r.val + t.val = _; omega)]
  unfold code
  rw [BitVec.getLsbD_extractLsb', decide_eq_true hi, Bool.true_and]
  congr 1
  omega

/-! ## The scale -/

/-- A row of scales, sixteen times. -/
def scaleRow (s : Vec Ideal S1x128 .f32) : FVec Ideal S16x128 .bf16 :=
  interleaveRows S16x128
    (truncf .bf16 (broadcastTo S8x128 (shapeCast S1x128 s shapeCasts_S1x128_S1x128) broadcasts_S1x128_S8x128 : FVec Ideal S8x128 .f32) bitsLt_bf16_f32)
    (truncf .bf16 (broadcastTo S8x128 (shapeCast S1x128 s shapeCasts_S1x128_S1x128) broadcasts_S1x128_S8x128 : FVec Ideal S8x128 .f32) bitsLt_bf16_f32)
    bitcasts_S16x128_w16_S8x128_w32

theorem scaleRow_apply (s : Vec Ideal S1x128 .f32) (r : Fin 16) (l : Fin 128) : scaleRow s (ix2 r l) = s (ix2 (0 : Fin 1) l) := by
  unfold scaleRow interleaveRows
  dsimp only
  rw [ite_self, shapeCast_self]
  refine (truncf_apply (s := S8x128) (φ := .f32) (ψ := .bf16) (broadcastTo S8x128 s broadcasts_S1x128_S8x128) bitsLt_bf16_f32 _).trans ?_
  refine broadcastTo_apply (s := S1x128) (t := S8x128) s broadcasts_S1x128_S8x128 _ (ix2 (0 : Fin 1) l) ?_
  intro a
  match a with
  | ⟨0, _⟩ => rfl
  | ⟨1, _⟩ => rfl

/-! ## An even half: eight levels and eight levels, each scaled -/

/-- Eight levels times a row of scales. -/
def levels (t : IVec S8x128 32) (s : Vec Ideal S1x128 .f32) : FVec Ideal S8x128 .f32 :=
  extf .f32 (rowsOfParity 0 S8x128
    (mulf (bitcastToFloat .bf16 (bitcast S16x128 16 (shapeCast S8x128 t shapeCasts_S8x128_S8x128) bitcasts_S8x128_w32_S16x128_w16)) (scaleRow s))
    bitcasts_S16x128_w16_S8x128_w32) bitsLt_bf16_f32

theorem levels_apply (t : IVec S8x128 32) (s : Vec Ideal S1x128 .f32) (r : Fin 8) (l : Fin 128) (n : BitVec 4)
    (ht : (t (ix2 r l)).extractLsb' 0 16 = levelBits n) : levels t s (ix2 r l) = level n * s (ix2 (0 : Fin 1) l) := by
  unfold levels
  rw [shapeCast_self]
  refine (parity_apply 0 (mulf (bitcastToFloat .bf16 (bitcast S16x128 16 t bitcasts_S8x128_w32_S16x128_w16)) (scaleRow s)) r l).trans ?_
  show (FloatOps.ofBits .bf16 (bitcast S16x128 16 t bitcasts_S8x128_w32_S16x128_w16 (ix2 (⟨2 * r.val + (0 : Fin 2).val, _⟩ : Fin 16) l)) : Ideal .bf16)
    * scaleRow s _ = _
  rw [halves_apply t r 0 l, scaleRow_apply]
  unfold level
  rw [← ht]
  rfl

/-- Eight rows of levels looked up, each twice: one row of the pair for each half of the word the levels are packed in. -/
def looked (t : FVec Ideal S8x128 .f32) (i : IVec S8x128 32) : FVec Ideal S16x128 .bf16 :=
  interleaveRows S16x128 (truncf .bf16 (dynamicGather 0 t (again i)) bitsLt_bf16_f32) (truncf .bf16 (dynamicGather 0 t (again i)) bitsLt_bf16_f32)
    bitcasts_S16x128_w16_S8x128_w32

theorem looked_apply (t : FVec Ideal S8x128 .f32) (i : IVec S8x128 32) (r : Fin 8) (h : Fin 2) (l : Fin 128) (n : Fin 8)
    (hn : (i (ix2 r l)).toNat = n.val) : looked t i (ix2 (⟨2 * r.val + h.val, by omega⟩ : Fin 16) l) = t (ix2 n l) := by
  unfold looked interleaveRows
  dsimp only
  rw [ite_self, again_eq]
  refine (truncf_apply (s := S8x128) (φ := .f32) (ψ := .bf16) (dynamicGather 0 t i) bitsLt_bf16_f32 _).trans ?_
  refine Eq.trans (congrArg (dynamicGather 0 t i) (funext fun a => ?_)) (gather_row t i r l n hn)
  match a with
  | ⟨0, _⟩ => exact Fin.ext (by show (2 * r.val + h.val) / 2 = r.val; omega)
  | ⟨1, _⟩ => rfl

/-- The even row of each pair from one, the odd row from the other. -/
theorem halves_select (x y : FVec Ideal S16x128 .bf16) (r : Fin 8) (h : Fin 2) (l : Fin 128) :
    select k0_pay139 x y (ix2 (⟨2 * r.val + h.val, by omega⟩ : Fin 16) l)
      = if h.val = 0 then x (ix2 (⟨2 * r.val + h.val, by omega⟩ : Fin 16) l) else y (ix2 (⟨2 * r.val + h.val, by omega⟩ : Fin 16) l) := by
  show Scalar.select (IntOp.cmpi .eq (bitcast S16x128 16 (broadcast S8x128 65536#32) bitcasts_S8x128_w32_S16x128_w16 _) 0#16) _ _ = _
  rw [halves_apply (broadcast S8x128 65536#32) r h l]
  have key : ∀ h : Fin 2, IntOp.cmpi .eq ((65536#32).extractLsb' (16 * h.val) 16) 0#16 = BitVec.ofBool (decide (h.val = 0)) := by decide
  show Scalar.select (IntOp.cmpi .eq ((65536#32).extractLsb' (16 * h.val) 16) 0#16) _ _ = _
  rw [key]
  by_cases h0 : h.val = 0
  · rw [if_pos h0, decide_eq_true h0]; rfl
  · rw [if_neg h0, decide_eq_false h0]; rfl

/-- Two of the four bytes' codes looked up: one for the even row of each pair, one for the odd row. -/
def lookup (th tl : FVec Ideal S8x128 .f32) (v ia ic : IVec S8x128 32) (m : BitVec 16) : FVec Ideal S16x128 .bf16 :=
  select (cmpi .ne (andi (bitcast S16x128 16 v bitcasts_S8x128_w32_S16x128_w16) (broadcast S16x128 m)) (broadcast S16x128 0#16))
    (select k0_pay139 (looked th ia) (looked th ic)) (select k0_pay139 (looked tl ia) (looked tl ic))

/-- A word's three bits from bit `s` on. -/
def three (v : IVec S8x128 32) (s : BitVec 32) : IVec S8x128 32 := andi (shrui v (broadcast S8x128 s)) (broadcast S8x128 7#32)

theorem lookup_apply (tlo thi : IVec S8x128 32) (s : Vec Ideal S1x128 .f32)
    (hlo : ∀ (r : Fin 8) (l : Fin 128), (tlo (ix2 r l)).extractLsb' 0 16 = levelBits (BitVec.ofNat 4 r.val))
    (hhi : ∀ (r : Fin 8) (l : Fin 128), (thi (ix2 r l)).extractLsb' 0 16 = levelBits (BitVec.ofNat 4 (8 + r.val)))
    (v ia ic : IVec S8x128 32) (m : BitVec 16) (t : Nat) (ht : t + 4 ≤ 16) (hm : m = 8#16 <<< t) (r : Fin 8) (h : Fin 2) (l : Fin 128)
    (ha : ia (ix2 r l) = IntOp.andi (IntOp.shrui .vector (v (ix2 r l)) (BitVec.ofNat 32 t)) 7#32)
    (hc : ic (ix2 r l) = IntOp.andi (IntOp.shrui .vector (v (ix2 r l)) (BitVec.ofNat 32 (16 + t))) 7#32) :
    lookup (levels thi s) (levels tlo s) v ia ic m (ix2 (⟨2 * r.val + h.val, by omega⟩ : Fin 16) l)
      = level (nib (v (ix2 r l)) (16 * h.val + t)) * s (ix2 (0 : Fin 1) l) := by
  have one (w : IVec S8x128 32) : select k0_pay139 (looked (levels w s) ia) (looked (levels w s) ic) (ix2 (⟨2 * r.val + h.val, by omega⟩ : Fin 16) l)
      = levels w s (ix2 (⟨(nib (v (ix2 r l)) (16 * h.val + t)).toNat % 8, Nat.mod_lt _ (by decide)⟩ : Fin 8) l) := by
    rw [halves_select]
    have h01 : h = 0 ∨ h = 1 := by omega
    rcases h01 with rfl | rfl
    · rw [if_pos (show ((0 : Fin 2).val = 0) from rfl)]
      refine looked_apply _ _ r 0 l _ ?_
      rw [ha, low_three _ t (by omega)]
      show _ = (nib _ (16 * 0 + t)).toNat % 8
      rw [Nat.mul_zero, Nat.zero_add]
    · rw [if_neg (by decide)]
      refine looked_apply _ _ r 1 l _ ?_
      rw [hc, low_three _ (16 + t) (by omega)]
      rfl
  unfold lookup
  show Scalar.select (IntOp.cmpi .ne (IntOp.andi (bitcast S16x128 16 v bitcasts_S8x128_w32_S16x128_w16 (ix2 (⟨2 * r.val + h.val, _⟩ : Fin 16) l)) m) 0#16)
    (select k0_pay139 (looked (levels thi s) ia) (looked (levels thi s) ic) _) (select k0_pay139 (looked (levels tlo s) ia) (looked (levels tlo s) ic) _) = _
  rw [halves_apply v r h l, top_bit_half _ h m t hm ht, one thi, one tlo,
    levels_apply thi s _ l _ (hhi _ l), levels_apply tlo s _ l _ (hlo _ l)]
  generalize nib (v (ix2 r l)) (16 * h.val + t) = c
  have key : ∀ c : BitVec 4, if 8 ≤ c.toNat then BitVec.ofNat 4 (8 + c.toNat % 8) = c else BitVec.ofNat 4 (c.toNat % 8) = c := by decide
  have k := key c
  by_cases h8 : 8 ≤ c.toNat
  · rw [if_pos h8] at k
    rw [decide_eq_true h8]
    show level (BitVec.ofNat 4 (8 + c.toNat % 8)) * _ = _
    rw [k]
  · rw [if_neg h8] at k
    rw [decide_eq_false h8]
    show level (BitVec.ofNat 4 (c.toNat % 8)) * _ = _
    rw [k]

/-- Sixteen rows as eight pairs of rows, put one above the other. -/
def both (x : FVec Ideal S16x128 .bf16) : FVec Ideal S8x2x128 .bf16 :=
  stored (rowsOfParity 0 S8x128 x bitcasts_S16x128_w16_S8x128_w32) (rowsOfParity 1 S8x128 x bitcasts_S16x128_w16_S8x128_w32)

theorem both_apply (x : FVec Ideal S16x128 .bf16) (r : Fin 8) (h : Fin 2) (l : Fin 128) :
    both x (ix3 r h l) = x (ix2 (⟨2 * r.val + h.val, by omega⟩ : Fin 16) l) := by
  unfold both
  rw [stored_apply, parity_apply, parity_apply]
  have h01 : h.val = 0 ∨ h.val = 1 := by omega
  rcases h01 with e | e
  · rw [if_pos e]; congr 2; exact Fin.ext (by show 2 * r.val + 0 = 2 * r.val + h.val; omega)
  · rw [if_neg (by omega)]; congr 2; exact Fin.ext (by show 2 * r.val + 1 = 2 * r.val + h.val; omega)

/-- The first eight pairs of rows of an even half … -/
def pieceA0 (tlo thi : IVec S8x128 32) (w : Vec Ideal S32x128 .i8) (s : Vec Ideal S1x128 .f32) : FVec Ideal S8x2x128 .bf16 :=
  both (lookup (levels thi s) (levels tlo s) (words 0#32 w) (andi (words 0#32 w) (broadcast S8x128 7#32)) (three (words 0#32 w) 16#32) 8#16)

/-- … and the second eight. -/
def pieceA1 (tlo thi : IVec S8x128 32) (w : Vec Ideal S32x128 .i8) (s : Vec Ideal S1x128 .f32) : FVec Ideal S8x2x128 .bf16 :=
  both (lookup (levels thi s) (levels tlo s) (words 0#32 w) (three (words 0#32 w) 8#32) (three (words 0#32 w) 24#32) 2048#16)

/-! ## An odd half: pairs of levels -/

/-- The codes of bytes `k` and `k + 2` of each word side by side. -/
def pairs (v : IVec S8x128 32) : IVec S8x128 32 :=
  ori (andi v (broadcast S8x128 252645135#32)) (shrui (andi v (broadcast S8x128 252645135#32)) (broadcast S8x128 12#32))

/-- A pair of levels looked up, times the scales. -/
def pairRows (p0 p1 z : IVec S8x128 32) (s : Vec Ideal S1x128 .f32) : FVec Ideal S16x128 .bf16 :=
  mulf (bitcastToFloat .bf16 (bitcast S16x128 16
    (select (cmpi .ne (andi z (broadcast S8x128 128#32)) (broadcast S8x128 0#32))
      (dynamicGather 1 (shapeCast S8x128 p1 shapeCasts_S8x128_S8x128) (again (andi z (broadcast S8x128 127#32))))
      (dynamicGather 1 (shapeCast S8x128 p0 shapeCasts_S8x128_S8x128) (again (andi z (broadcast S8x128 127#32)))))
    bitcasts_S8x128_w32_S16x128_w16)) (scaleRow s)

def pieceB0 (p0 p1 : IVec S8x128 32) (w : Vec Ideal S32x128 .i8) (s : Vec Ideal S1x128 .f32) : FVec Ideal S8x2x128 .bf16 :=
  both (pairRows p0 p1 (pairs (words 64#32 w)) s)

def pieceB1 (p0 p1 : IVec S8x128 32) (w : Vec Ideal S32x128 .i8) (s : Vec Ideal S1x128 .f32) : FVec Ideal S8x2x128 .bf16 :=
  both (pairRows p0 p1 (shrui (pairs (words 64#32 w)) (broadcast S8x128 8#32)) s)

theorem pairRows_apply (p0 p1 : IVec S8x128 32) (s : Vec Ideal S1x128 .f32)
    (h0 : ∀ (r : Fin 8) (i : Fin 128), (p0 (ix2 r i)).extractLsb' 0 16 = levelBits (BitVec.ofNat 4 (i.val % 16))
      ∧ (p0 (ix2 r i)).extractLsb' 16 16 = levelBits (BitVec.ofNat 4 (i.val / 16)))
    (h1 : ∀ (r : Fin 8) (i : Fin 128), (p1 (ix2 r i)).extractLsb' 0 16 = levelBits (BitVec.ofNat 4 (i.val % 16))
      ∧ (p1 (ix2 r i)).extractLsb' 16 16 = levelBits (BitVec.ofNat 4 (8 + i.val / 16)))
    (z : IVec S8x128 32) (y : BitVec 32) (t : Nat) (ht : t + 8 ≤ 32) (r : Fin 8) (h : Fin 2) (l : Fin 128) (a b : BitVec 4)
    (hz : z (ix2 r l) = IntOp.shrui .vector y (BitVec.ofNat 32 t))
    (hy : ∀ i < 8, y.getLsbD (t + i) = if i < 4 then a.getLsbD i else b.getLsbD (i - 4)) :
    pairRows p0 p1 z s (ix2 (⟨2 * r.val + h.val, by omega⟩ : Fin 16) l) = level (if h.val = 0 then a else b) * s (ix2 (0 : Fin 1) l) := by
  unfold pairRows
  rw [again_eq, shapeCast_self, shapeCast_self]
  show (FloatOps.ofBits .bf16 (bitcast S16x128 16 _ bitcasts_S8x128_w32_S16x128_w16 (ix2 (⟨2 * r.val + h.val, _⟩ : Fin 16) l)) : Ideal .bf16)
    * scaleRow s _ = _
  rw [halves_apply _ r h l, scaleRow_apply]
  unfold level
  congr 2
  show (Scalar.select (IntOp.cmpi .ne (IntOp.andi (z (ix2 r l)) 128#32) 0#32) (dynamicGather 1 p1 (andi z (broadcast S8x128 127#32)) (ix2 r l))
    (dynamicGather 1 p0 (andi z (broadcast S8x128 127#32)) (ix2 r l))).extractLsb' (16 * h.val) 16 = _
  have hlow := pair_low y a b t (by omega) hy
  rw [← hz] at hlow
  have hlt : a.toNat + 16 * (b.toNat % 8) < 128 := by omega
  rw [gather_lane p1 _ r l ⟨a.toNat + 16 * (b.toNat % 8), hlt⟩ hlow, gather_lane p0 _ r l ⟨a.toNat + 16 * (b.toNat % 8), hlt⟩ hlow,
    hz, pair_top y a b t ht hy]
  have q0 := h0 r ⟨a.toNat + 16 * (b.toNat % 8), hlt⟩
  have q1 := h1 r ⟨a.toNat + 16 * (b.toNat % 8), hlt⟩
  have ea : BitVec.ofNat 4 ((a.toNat + 16 * (b.toNat % 8)) % 16) = a := by
    rw [Nat.add_mul_mod_self_left, Nat.mod_eq_of_lt a.isLt]; simp
  have eb : (a.toNat + 16 * (b.toNat % 8)) / 16 = b.toNat % 8 := by have := a.isLt; omega
  dsimp only at q0 q1
  rw [ea, eb] at q0 q1
  have key : ∀ c : BitVec 4, if 8 ≤ c.toNat then BitVec.ofNat 4 (8 + c.toNat % 8) = c else BitVec.ofNat 4 (c.toNat % 8) = c := by decide
  have k := key b
  have h01 : h.val = 0 ∨ h.val = 1 := by omega
  by_cases h8 : 8 ≤ b.toNat
  · rw [if_pos h8] at k
    rw [decide_eq_true h8]
    show (p1 _).extractLsb' _ 16 = _
    rcases h01 with e | e
    · rw [e, if_pos rfl]; exact q1.1
    · rw [e, if_neg (by decide)]; exact q1.2.trans (by rw [k])
  · rw [if_neg h8] at k
    rw [decide_eq_false h8]
    show (p0 _).extractLsb' _ 16 = _
    rcases h01 with e | e
    · rw [e, if_pos rfl]; exact q0.1
    · rw [e, if_neg (by decide)]; exact q0.2.trans (by rw [k])

/-! ## What a piece is at an index -/

/-- The four tables: levels 0 to 7, levels 8 to 15, and the two tables of pairs. -/
structure Tables (tlo thi p0 p1 : IVec S8x128 32) : Prop where
  lo : ∀ (r : Fin 8) (l : Fin 128), (tlo (ix2 r l)).extractLsb' 0 16 = levelBits (BitVec.ofNat 4 r.val)
  hi : ∀ (r : Fin 8) (l : Fin 128), (thi (ix2 r l)).extractLsb' 0 16 = levelBits (BitVec.ofNat 4 (8 + r.val))
  p0 : ∀ (r : Fin 8) (i : Fin 128), (p0 (ix2 r i)).extractLsb' 0 16 = levelBits (BitVec.ofNat 4 (i.val % 16))
      ∧ (p0 (ix2 r i)).extractLsb' 16 16 = levelBits (BitVec.ofNat 4 (i.val / 16))
  p1 : ∀ (r : Fin 8) (i : Fin 128), (p1 (ix2 r i)).extractLsb' 0 16 = levelBits (BitVec.ofNat 4 (i.val % 16))
      ∧ (p1 (ix2 r i)).extractLsb' 16 16 = levelBits (BitVec.ofNat 4 (8 + i.val / 16))

/-- Level times scale at row pair `r`, row `h` of it and lane `l`, for the half `p` of the tile and the second (`k = 1`)
    or first eight pairs of rows. -/
def val (p k : Nat) (hp : p < 2) (hk : k < 2) (w : Vec Ideal S32x128 .i8) (s : Vec Ideal S1x128 .f32) (r : Fin 8) (h : Fin 2) (l : Fin 128) : Ideal .bf16 :=
  level (code (w (ix2 (⟨4 * r.val + k + 2 * h.val, by omega⟩ : Fin 32) (⟨64 * p + l.val / 2, by omega⟩ : Fin 128))) (l.val % 2))
    * s (ix2 (0 : Fin 1) l)

variable {tlo thi p0 p1 : IVec S8x128 32} (T : Tables tlo thi p0 p1) (w : Vec Ideal S32x128 .i8) (s : Vec Ideal S1x128 .f32)

include T

theorem pieceA0_apply (r : Fin 8) (h : Fin 2) (l : Fin 128) : pieceA0 tlo thi w s (ix3 r h l) = val 0 0 (by decide) (by decide) w s r h l := by
  unfold pieceA0 val
  rw [both_apply, lookup_apply tlo thi s T.lo T.hi _ _ _ _ 0 (by decide) (by decide) r h l (by rw [shr_zero]; rfl) rfl]
  have h01 : h = 0 ∨ h = 1 := by omega
  rcases h01 with rfl | rfl
  · exact congrArg (fun n => level n * _) (words_nib 0 w r l 0)
  · exact congrArg (fun n => level n * _) (words_nib 0 w r l 2)

theorem pieceA1_apply (r : Fin 8) (h : Fin 2) (l : Fin 128) : pieceA1 tlo thi w s (ix3 r h l) = val 0 1 (by decide) (by decide) w s r h l := by
  unfold pieceA1 val
  rw [both_apply, lookup_apply tlo thi s T.lo T.hi _ _ _ _ 8 (by decide) (by decide) r h l rfl rfl]
  have h01 : h = 0 ∨ h = 1 := by omega
  rcases h01 with rfl | rfl
  · exact congrArg (fun n => level n * _) (words_nib 0 w r l 1)
  · exact congrArg (fun n => level n * _) (words_nib 0 w r l 3)

theorem pieceB0_apply (r : Fin 8) (h : Fin 2) (l : Fin 128) : pieceB0 p0 p1 w s (ix3 r h l) = val 1 0 (by decide) (by decide) w s r h l := by
  unfold pieceB0 val
  rw [both_apply, pairRows_apply p0 p1 s T.p0 T.p1 _ (pairs (words 64#32 w) (ix2 r l)) 0 (by decide) r h l _ _ (shr_zero _).symm
    (fun i hi => pair_index (words 64#32 w (ix2 r l)) 0 (by decide) _ rfl i hi)]
  have h01 : h = 0 ∨ h = 1 := by omega
  rcases h01 with rfl | rfl
  · exact congrArg (fun n => level n * _) (words_nib 1 w r l 0)
  · exact congrArg (fun n => level n * _) (words_nib 1 w r l 2)

theorem pieceB1_apply (r : Fin 8) (h : Fin 2) (l : Fin 128) : pieceB1 p0 p1 w s (ix3 r h l) = val 1 1 (by decide) (by decide) w s r h l := by
  unfold pieceB1 val
  rw [both_apply, pairRows_apply p0 p1 s T.p0 T.p1 _ (pairs (words 64#32 w) (ix2 r l)) 8 (by decide) r h l _ _ rfl
    (fun i hi => pair_index (words 64#32 w (ix2 r l)) 1 (by decide) _ rfl i hi)]
  have h01 : h = 0 ∨ h = 1 := by omega
  rcases h01 with rfl | rfl
  · exact congrArg (fun n => level n * _) (words_nib 1 w r l 1)
  · exact congrArg (fun n => level n * _) (words_nib 1 w r l 3)

end Cert.KernelIdeal.Dec
-- ==== Proof.Reorder.lean ====
/- The loop that reorders the columns of the activations: after it, the buffer holds each pair of rows of the activations
   with the columns of every thirty-two in the order in which the decoded weights' rows lie. -/
module

public import proofs.«01_k».proof.Proof.Decode
public import proofs.«01_k».proof.Proof.Gen.KernelIdeal.Loops

@[expose] public section

noncomputable section

namespace Cert.KernelIdeal.Dec

open Idealize.ShloMosaic Idealize.ShloMosaic.ValueIdx Idealize.ShloMosaic.TcCoe Idealize.SL.Sem Cert.KernelIdeal Cert.KernelIdeal.Gen

/-- Where column `k` of the reordered activations comes from: within each thirty-two columns, the four bits of `k % 16`
    above its lowest move up, and the two others come below them. -/
def sigma (k : Nat) : Nat := k / 32 * 32 + 4 * (k % 16 / 2) + 2 * (k % 2) + k % 32 / 16

theorem sigma_lt {k n : Nat} (h : k < 32 * n) : sigma k < 32 * n := by unfold sigma; omega

theorem sigma_block (k : Nat) : sigma k / 64 = k / 64 := by
  have e : sigma k = 32 * (k / 32) + (4 * (k % 16 / 2) + 2 * (k % 2) + k % 32 / 16) := by unfold sigma; omega
  have hs : 4 * (k % 16 / 2) + 2 * (k % 2) + k % 32 / 16 < 32 := by omega
  rw [e]
  generalize 4 * (k % 16 / 2) + 2 * (k % 2) + k % 32 / 16 = s at hs
  have e2 : (32 * (k / 32) + s) / 64 = k / 32 / 2 := by generalize k / 32 = q; omega
  rw [e2, Nat.div_div_eq_div_mul]

/-- The reordered activations in the buffer's order: pair of rows `q`, row `h` of it, column `c`. -/
def xpAt (x : S512x2048.Idx → Ideal .bf16) : S256x2x2048.Idx → Ideal .bf16 := fun y =>
  x (ix2 (⟨2 * (y 0).val + (y 1).val, by
      have h0 : (y 0).val < 256 := (y 0).isLt
      have h1 : (y 1).val < 2 := (y 1).isLt
      omega⟩ : Fin 512)
    (⟨sigma (y 2).val, sigma_lt (n := 64) (y 2).isLt⟩ : Fin 2048))

/-- One tile of 128 columns of sixteen rows, its columns reordered. -/
def pieceX (w : Vec Ideal S16x128 .bf16) : FVec Ideal S8x2x128 .bf16 :=
  stored
    (truncf .bf16 (dynamicGather 1 (extf .f32 (rowsOfParity 0 S8x128 (shapeCast S16x128 w shapeCasts_S16x128_S16x128 : FVec Ideal S16x128 .bf16)
      bitcasts_S16x128_w16_S8x128_w32) bitsLt_bf16_f32 : FVec Ideal S8x128 .f32) (again k0_pay134)) bitsLt_bf16_f32)
    (truncf .bf16 (dynamicGather 1 (extf .f32 (rowsOfParity 1 S8x128 (shapeCast S16x128 w shapeCasts_S16x128_S16x128 : FVec Ideal S16x128 .bf16)
      bitcasts_S16x128_w16_S8x128_w32) bitsLt_bf16_f32 : FVec Ideal S8x128 .f32) (again k0_pay134)) bitsLt_bf16_f32)

theorem src_word : ∀ l : Fin 128,
    (let q := IntOp.andi (BitVec.ofNat 32 l.val) 31#32
     IntOp.addi (IntOp.addi (IntOp.addi (IntOp.andi (BitVec.ofNat 32 l.val) 4294967264#32)
        (IntOp.muli 4#32 (IntOp.shrsi .vector (IntOp.andi q 15#32) 1#32))) (IntOp.muli 2#32 (IntOp.andi q 1#32)))
        (IntOp.shrsi .vector q 4#32)).toNat = sigma l.val := by
  decide +kernel

theorem src_apply (r : Fin 8) (l : Fin 128) : (k0_pay134 (ix2 r l)).toNat = sigma l.val := by
  rw [← src_word l]
  have e : iota .tc S8x128 32 [1] iota_S8x128_d1_w32 (ix2 r l) = BitVec.ofNat 32 l.val := iota_single_apply ..
  rw [← e]
  rfl

theorem gathered (x : FVec Ideal S8x128 .bf16) (r : Fin 8) (l : Fin 128) :
    (truncf .bf16 (dynamicGather 1 (extf .f32 x bitsLt_bf16_f32 : FVec Ideal S8x128 .f32) (again k0_pay134)) bitsLt_bf16_f32 : FVec Ideal S8x128 .bf16) (ix2 r l)
      = x (ix2 r (⟨sigma l.val, sigma_lt (n := 4) l.isLt⟩ : Fin 128)) := by
  rw [again_eq]
  refine (truncf_apply (s := S8x128) (φ := .f32) (ψ := .bf16) _ bitsLt_bf16_f32 _).trans ?_
  rw [gather_lane _ _ r l ⟨sigma l.val, sigma_lt (n := 4) l.isLt⟩ (src_apply r l)]
  rfl

theorem pieceX_apply (w : Vec Ideal S16x128 .bf16) (r : Fin 8) (h : Fin 2) (l : Fin 128) :
    pieceX w (ix3 r h l) = w (ix2 (⟨2 * r.val + h.val, by omega⟩ : Fin 16) (⟨sigma l.val, sigma_lt (n := 4) l.isLt⟩ : Fin 128)) := by
  unfold pieceX
  rw [stored_apply, shapeCast_self, gathered, gathered, parity_apply, parity_apply]
  have h01 : h = 0 ∨ h = 1 := by omega
  rcases h01 with rfl | rfl
  · rfl
  · rfl

/-- A tile's reordered columns are the reordered activations at the place the tile is stored to. -/
theorem atX (x1 : S512x2048.Idx → Ideal .bf16) (t n : Nat) (hn : n < 16) (oW : Fin 2 → Nat) (oO : Fin 3 → Nat)
    (hW : oW = ![16 * t, 128 * n]) (hO : oO = ![8 * t, 0, 128 * n])
    (iW : ∀ a, oW a + S16x128.size a ≤ S512x2048.size a) (iO : ∀ a, oO a + S8x2x128.size a ≤ S256x2x2048.size a) (x : S8x2x128.Idx) :
    pieceX (fun y => x1 ((Rect.unit (s := S512x2048) oW S16x128.size iW).toLoadRect.idx y)) x
      = xpAt x1 ((Rect.unit (s := S256x2x2048) oO S8x2x128.size iO).emb x) := by
  obtain ⟨r, h, l, rfl⟩ : ∃ (r : Fin 8) (h : Fin 2) (l : Fin 128), x = ix3 r h l := ⟨_, _, _, eq_ix3 x⟩
  subst hW hO
  rw [pieceX_apply]
  unfold xpAt
  refine congrArg x1 (funext fun a => ?_)
  match a with
  | ⟨0, _⟩ =>
    refine Fin.ext ?_
    show 16 * t + 1 * (2 * r.val + h.val) = 2 * (8 * t + 1 * r.val) + (0 + 1 * h.val)
    omega
  | ⟨1, _⟩ =>
    refine Fin.ext ?_
    show 128 * n + 1 * sigma l.val = sigma (128 * n + 1 * l.val)
    unfold sigma
    omega

set_option maxRecDepth 8192 in
set_option maxHeartbeats 4000000 in
/-- Every piece a trip stores holds the reordered activations at its place. -/
theorem trip1 (𝒱 : Variants) (c : Dev nD) (bd : Option 𝒱.V) (i : grid0.Coords) (arg1 : Memref sig .tc .vmem S512x2048 .bf16) (harg1 : arg1.IsWhole) (arg2 : Memref sig .tc .vmem S2048x256 .i8) (harg2 : arg2.IsWhole) (arg3 : Memref sig .tc .vmem S32x512 .f32) (harg3 : arg3.IsWhole) (arg4 : Memref sig .tc .vmem S2048x16 .bf16) (harg4 : arg4.IsWhole) (arg5 : Memref sig .tc .vmem S16x512 .bf16) (harg5 : arg5.IsWhole) (arg6 : Memref sig .tc .vmem S8x128 .i32) (harg6 : arg6.IsWhole) (arg7 : Memref sig .tc .vmem S8x128 .i32) (harg7 : arg7.IsWhole) (arg8 : Memref sig .tc .vmem S8x128 .i32) (harg8 : arg8.IsWhole) (arg9 : Memref sig .tc .vmem S8x128 .i32) (harg9 : arg9.IsWhole) (arg10 : Memref sig .tc .vmem S512x512 .bf16) (harg10 : arg10.IsWhole) (arg11 : Memref sig .tc .vmem S256x2x2048 .bf16) (harg11 : arg11.IsWhole) (arg12 : Memref sig .tc .vmem S512x32 .bf16) (harg12 : arg12.IsWhole) (arg13 : Memref sig .tc .vmem S1024x2x512 .bf16) (harg13 : arg13.IsWhole) (k0_h1 : k0_cond1 i = 1#1) (X_arg1 : BufTy.Contents (Elt Ideal) arg1.view.ty) (k : Fin k0_t1_loop.trips) :
    ∀ pc ∈ tripL_k0_t1 𝒱 c bd i arg1 harg1 arg2 harg2 arg3 harg3 arg4 harg4 arg5 harg5 arg6 harg6 arg7 harg7 arg8 harg8 arg9 harg9 arg10 harg10 arg11 harg11 arg12 harg12 arg13 harg13 k0_h1 X_arg1 k,
      ∀ x, pc.2 x = xpAt (arg1.view.read (Elt Ideal) X_arg1) (pc.1.emb x) := by
  unfold tripL_k0_t1 trip_k0_t1
  dsimp only
  simp only [List.forall_mem_cons]
  exact ⟨
    fun x => atX (arg1.view.read (Elt Ideal) X_arg1) k.val 15 (by decide) _ _ (k0_off31_eq k) (k0_off32_eq k) _ _ x,
    fun x => atX (arg1.view.read (Elt Ideal) X_arg1) k.val 14 (by decide) _ _ (k0_off29_eq k) (k0_off30_eq k) _ _ x,
    fun x => atX (arg1.view.read (Elt Ideal) X_arg1) k.val 13 (by decide) _ _ (k0_off27_eq k) (k0_off28_eq k) _ _ x,
    fun x => atX (arg1.view.read (Elt Ideal) X_arg1) k.val 12 (by decide) _ _ (k0_off25_eq k) (k0_off26_eq k) _ _ x,
    fun x => atX (arg1.view.read (Elt Ideal) X_arg1) k.val 11 (by decide) _ _ (k0_off23_eq k) (k0_off24_eq k) _ _ x,
    fun x => atX (arg1.view.read (Elt Ideal) X_arg1) k.val 10 (by decide) _ _ (k0_off21_eq k) (k0_off22_eq k) _ _ x,
    fun x => atX (arg1.view.read (Elt Ideal) X_arg1) k.val 9 (by decide) _ _ (k0_off19_eq k) (k0_off20_eq k) _ _ x,
    fun x => atX (arg1.view.read (Elt Ideal) X_arg1) k.val 8 (by decide) _ _ (k0_off17_eq k) (k0_off18_eq k) _ _ x,
    fun x => atX (arg1.view.read (Elt Ideal) X_arg1) k.val 7 (by decide) _ _ (k0_off15_eq k) (k0_off16_eq k) _ _ x,
    fun x => atX (arg1.view.read (Elt Ideal) X_arg1) k.val 6 (by decide) _ _ (k0_off13_eq k) (k0_off14_eq k) _ _ x,
    fun x => atX (arg1.view.read (Elt Ideal) X_arg1) k.val 5 (by decide) _ _ (k0_off11_eq k) (k0_off12_eq k) _ _ x,
    fun x => atX (arg1.view.read (Elt Ideal) X_arg1) k.val 4 (by decide) _ _ (k0_off9_eq k) (k0_off10_eq k) _ _ x,
    fun x => atX (arg1.view.read (Elt Ideal) X_arg1) k.val 3 (by decide) _ _ (k0_off7_eq k) (k0_off8_eq k) _ _ x,
    fun x => atX (arg1.view.read (Elt Ideal) X_arg1) k.val 2 (by decide) _ _ (k0_off5_eq k) (k0_off6_eq k) _ _ x,
    fun x => atX (arg1.view.read (Elt Ideal) X_arg1) k.val 1 (by decide) _ _ (k0_off3_eq k) (k0_off4_eq k) _ _ x,
    fun x => atX (arg1.view.read (Elt Ideal) X_arg1) k.val 0 (by decide) _ _ (k0_off1_eq k) (k0_off2_eq k) _ _ x,
    fun _ h => absurd h List.not_mem_nil⟩

/-- … and so does every piece of the loop. -/
theorem loop1 (𝒱 : Variants) (c : Dev nD) (bd : Option 𝒱.V) (i : grid0.Coords) (arg1 : Memref sig .tc .vmem S512x2048 .bf16) (harg1 : arg1.IsWhole) (arg2 : Memref sig .tc .vmem S2048x256 .i8) (harg2 : arg2.IsWhole) (arg3 : Memref sig .tc .vmem S32x512 .f32) (harg3 : arg3.IsWhole) (arg4 : Memref sig .tc .vmem S2048x16 .bf16) (harg4 : arg4.IsWhole) (arg5 : Memref sig .tc .vmem S16x512 .bf16) (harg5 : arg5.IsWhole) (arg6 : Memref sig .tc .vmem S8x128 .i32) (harg6 : arg6.IsWhole) (arg7 : Memref sig .tc .vmem S8x128 .i32) (harg7 : arg7.IsWhole) (arg8 : Memref sig .tc .vmem S8x128 .i32) (harg8 : arg8.IsWhole) (arg9 : Memref sig .tc .vmem S8x128 .i32) (harg9 : arg9.IsWhole) (arg10 : Memref sig .tc .vmem S512x512 .bf16) (harg10 : arg10.IsWhole) (arg11 : Memref sig .tc .vmem S256x2x2048 .bf16) (harg11 : arg11.IsWhole) (arg12 : Memref sig .tc .vmem S512x32 .bf16) (harg12 : arg12.IsWhole) (arg13 : Memref sig .tc .vmem S1024x2x512 .bf16) (harg13 : arg13.IsWhole) (k0_h1 : k0_cond1 i = 1#1) (X_arg1 : BufTy.Contents (Elt Ideal) arg1.view.ty) (k : Nat) (hk : k ≤ k0_t1_loop.trips) :
    ∀ pc ∈ pb_k0_t1 𝒱 c bd i arg1 harg1 arg2 harg2 arg3 harg3 arg4 harg4 arg5 harg5 arg6 harg6 arg7 harg7 arg8 harg8 arg9 harg9 arg10 harg10 arg11 harg11 arg12 harg12 arg13 harg13 k0_h1 X_arg1 k,
      ∀ x, pc.2 x = xpAt (arg1.view.read (Elt Ideal) X_arg1) (pc.1.emb x) := by
  induction k with
  | zero => intro pc h; exact absurd h List.not_mem_nil
  | succ k ih =>
    rw [pb_k0_t1_succ _ _ _ _ _ _ _ _ _ _ _ _ _ _ _ _ _ _ _ _ _ _ _ _ _ _ _ _ _ _ _ _ ⟨k, hk⟩]
    intro pc h
    rcases List.mem_append.mp h with h | h
    · exact trip1 𝒱 c bd i arg1 harg1 arg2 harg2 arg3 harg3 arg4 harg4 arg5 harg5 arg6 harg6 arg7 harg7 arg8 harg8 arg9 harg9 arg10 harg10 arg11 harg11 arg12 harg12 arg13 harg13 k0_h1 X_arg1 ⟨k, hk⟩ pc h
    · exact ih (Nat.le_of_succ_le hk) pc h

end Cert.KernelIdeal.Dec
-- ==== Proof.Trips.lean ====
/- The loop that decodes the weights: after it, the buffer holds at every index the level of a code times its scale, the
   rows in the order in which the trips store them. -/
module

public import proofs.«01_k».proof.Proof.Decode
public import proofs.«01_k».proof.Proof.Gen.KernelIdeal.Loops

@[expose] public section

noncomputable section

namespace Cert.KernelIdeal.Dec

open Idealize.ShloMosaic Idealize.ShloMosaic.ValueIdx Idealize.ShloMosaic.TcCoe Idealize.SL.Sem Cert.KernelIdeal Cert.KernelIdeal.Gen

/-- The decoded weights in the buffer's order: pair of rows `q`, row `h` of it, column `c`. -/
def wdAt (w : S2048x256.Idx → BitVec 8) (s : S32x512.Idx → Ideal .f32) : S1024x2x512.Idx → Ideal .bf16 := fun y =>
  level (code (w (ix2
      (⟨64 * ((y 0).val / 32) + 32 * ((y 0).val / 16 % 2) + 4 * ((y 0).val % 8) + (y 0).val / 8 % 2 + 2 * (y 1).val, by
        have h0 : (y 0).val < 1024 := (y 0).isLt
        have h1 : (y 1).val < 2 := (y 1).isLt
        omega⟩ : Fin 2048)
      (⟨(y 2).val / 2, by have h2 : (y 2).val < 512 := (y 2).isLt; omega⟩ : Fin 256))) ((y 2).val % 2))
    * s (ix2 (⟨(y 0).val / 32, by have h0 : (y 0).val < 1024 := (y 0).isLt; omega⟩ : Fin 32) (⟨(y 2).val, (y 2).isLt⟩ : Fin 512))

/-- What a piece holds is the decoded weights at the place it is stored to. -/
theorem val_wdAt (x2 : S2048x256.Idx → BitVec 8) (x3 : S32x512.Idx → Ideal .f32) (b g n p k : Nat) (hg : g < 2)
    (hp : p < 2) (hk : k < 2) (oW oS : Fin 2 → Nat) (oO : Fin 3 → Nat)
    (hW : oW = ![64 * b + 32 * g, 128 * n]) (hS : oS = ![b, 256 * n + 128 * p]) (hO : oO = ![32 * b + 16 * g + 8 * k, 0, 256 * n + 128 * p])
    (iW : ∀ a, oW a + S32x128.size a ≤ S2048x256.size a) (iS : ∀ a, oS a + S1x128.size a ≤ S32x512.size a)
    (iO : ∀ a, oO a + S8x2x128.size a ≤ S1024x2x512.size a) (r : Fin 8) (h : Fin 2) (l : Fin 128) :
    val p k hp hk (fun y => x2 ((Rect.unit (s := S2048x256) oW S32x128.size iW).toLoadRect.idx y)) (fun y => x3 ((Rect.unit (s := S32x512) oS S1x128.size iS).toLoadRect.idx y)) r h l
      = wdAt x2 x3 ((Rect.unit (s := S1024x2x512) oO S8x2x128.size iO).emb (ix3 r h l)) := by
  subst hW hS hO
  have e0 : (((Rect.unit (s := S1024x2x512) ![32 * b + 16 * g + 8 * k, 0, 256 * n + 128 * p] S8x2x128.size iO).emb (ix3 r h l)) 0).val
      = 32 * b + 16 * g + 8 * k + 1 * r.val := rfl
  have e1 : (((Rect.unit (s := S1024x2x512) ![32 * b + 16 * g + 8 * k, 0, 256 * n + 128 * p] S8x2x128.size iO).emb (ix3 r h l)) 1).val
      = 0 + 1 * h.val := rfl
  have e2 : (((Rect.unit (s := S1024x2x512) ![32 * b + 16 * g + 8 * k, 0, 256 * n + 128 * p] S8x2x128.size iO).emb (ix3 r h l)) 2).val
      = 256 * n + 128 * p + 1 * l.val := rfl
  unfold val wdAt
  have hodd : (((Rect.unit (s := S1024x2x512) ![32 * b + 16 * g + 8 * k, 0, 256 * n + 128 * p] S8x2x128.size iO).emb (ix3 r h l)) 2).val % 2 = l.val % 2 := by
    rw [e2]; omega
  rw [hodd]
  congr 1
  · congr 2
    refine congrArg x2 (funext fun a => ?_)
    match a with
    | ⟨0, _⟩ =>
      refine Fin.ext ?_
      show 64 * b + 32 * g + 1 * (4 * r.val + k + 2 * h.val) = _
      show _ = 64 * (_ / 32) + 32 * (_ / 16 % 2) + 4 * (_ % 8) + _ / 8 % 2 + 2 * _
      rw [e0, e1]
      omega
    | ⟨1, _⟩ =>
      refine Fin.ext ?_
      show 128 * n + 1 * (64 * p + l.val / 2) = _ / 2
      rw [e2]
      omega
  · refine congrArg x3 (funext fun a => ?_)
    match a with
    | ⟨0, _⟩ =>
      refine Fin.ext ?_
      show b + 1 * 0 = _ / 32
      rw [e0]
      omega
    | ⟨1, _⟩ =>
      refine Fin.ext ?_
      show 256 * n + 128 * p + 1 * l.val = _
      exact e2.symm

theorem exists_ix3 (x : S8x2x128.Idx) : ∃ (r : Fin 8) (h : Fin 2) (l : Fin 128), x = ix3 r h l := ⟨_, _, _, eq_ix3 x⟩

section

variable {tlo thi p0 p1 : IVec S8x128 32} (T : Tables tlo thi p0 p1) (x2 : S2048x256.Idx → BitVec 8) (x3 : S32x512.Idx → Ideal .f32) (b g n : Nat)
  (hg : g < 2) (oW oS : Fin 2 → Nat) (oO : Fin 3 → Nat) (hW : oW = ![64 * b + 32 * g, 128 * n])
  (iW : ∀ a, oW a + S32x128.size a ≤ S2048x256.size a) (iS : ∀ a, oS a + S1x128.size a ≤ S32x512.size a)
  (iO : ∀ a, oO a + S8x2x128.size a ≤ S1024x2x512.size a) (x : S8x2x128.Idx)

include T hW hg

theorem atA0 (hS : oS = ![b, 256 * n + 128 * 0]) (hO : oO = ![32 * b + 16 * g + 8 * 0, 0, 256 * n + 128 * 0]) :
    pieceA0 tlo thi (fun y => x2 ((Rect.unit (s := S2048x256) oW S32x128.size iW).toLoadRect.idx y)) (fun y => x3 ((Rect.unit (s := S32x512) oS S1x128.size iS).toLoadRect.idx y)) x
      = wdAt x2 x3 ((Rect.unit (s := S1024x2x512) oO S8x2x128.size iO).emb x) := by
  obtain ⟨r, h, l, rfl⟩ := exists_ix3 x
  exact (pieceA0_apply T _ _ r h l).trans (val_wdAt x2 x3 b g n 0 0 hg (by decide) (by decide) oW oS oO hW hS hO iW iS iO r h l)

theorem atA1 (hS : oS = ![b, 256 * n + 128 * 0]) (hO : oO = ![32 * b + 16 * g + 8 * 1, 0, 256 * n + 128 * 0]) :
    pieceA1 tlo thi (fun y => x2 ((Rect.unit (s := S2048x256) oW S32x128.size iW).toLoadRect.idx y)) (fun y => x3 ((Rect.unit (s := S32x512) oS S1x128.size iS).toLoadRect.idx y)) x
      = wdAt x2 x3 ((Rect.unit (s := S1024x2x512) oO S8x2x128.size iO).emb x) := by
  obtain ⟨r, h, l, rfl⟩ := exists_ix3 x
  exact (pieceA1_apply T _ _ r h l).trans (val_wdAt x2 x3 b g n 0 1 hg (by decide) (by decide) oW oS oO hW hS hO iW iS iO r h l)

theorem atB0 (hS : oS = ![b, 256 * n + 128 * 1]) (hO : oO = ![32 * b + 16 * g + 8 * 0, 0, 256 * n + 128 * 1]) :
    pieceB0 p0 p1 (fun y => x2 ((Rect.unit (s := S2048x256) oW S32x128.size iW).toLoadRect.idx y)) (fun y => x3 ((Rect.unit (s := S32x512) oS S1x128.size iS).toLoadRect.idx y)) x
      = wdAt x2 x3 ((Rect.unit (s := S1024x2x512) oO S8x2x128.size iO).emb x) := by
  obtain ⟨r, h, l, rfl⟩ := exists_ix3 x
  exact (pieceB0_apply T _ _ r h l).trans (val_wdAt x2 x3 b g n 1 0 hg (by decide) (by decide) oW oS oO hW hS hO iW iS iO r h l)

theorem atB1 (hS : oS = ![b, 256 * n + 128 * 1]) (hO : oO = ![32 * b + 16 * g + 8 * 1, 0, 256 * n + 128 * 1]) :
    pieceB1 p0 p1 (fun y => x2 ((Rect.unit (s := S2048x256) oW S32x128.size iW).toLoadRect.idx y)) (fun y => x3 ((Rect.unit (s := S32x512) oS S1x128.size iS).toLoadRect.idx y)) x
      = wdAt x2 x3 ((Rect.unit (s := S1024x2x512) oO S8x2x128.size iO).emb x) := by
  obtain ⟨r, h, l, rfl⟩ := exists_ix3 x
  exact (pieceB1_apply T _ _ r h l).trans (val_wdAt x2 x3 b g n 1 1 hg (by decide) (by decide) oW oS oO hW hS hO iW iS iO r h l)

end

/-- A piece that is one of the four has its value at every index. -/
theorem put {α : Type} {f g : S8x2x128.Idx → α} {y : α} (x : S8x2x128.Idx) (h : g x = y) (hf : f = g) : f x = y := (congrFun hf x).trans h

set_option maxRecDepth 8192 in
set_option maxHeartbeats 4000000 in
/-- Every piece a trip stores holds the decoded weights at its place. -/
theorem trip2 (𝒱 : Variants) (c : Dev nD) (bd : Option 𝒱.V) (i : grid0.Coords) (arg1 : Memref sig .tc .vmem S512x2048 .bf16) (harg1 : arg1.IsWhole) (arg2 : Memref sig .tc .vmem S2048x256 .i8) (harg2 : arg2.IsWhole) (arg3 : Memref sig .tc .vmem S32x512 .f32) (harg3 : arg3.IsWhole) (arg4 : Memref sig .tc .vmem S2048x16 .bf16) (harg4 : arg4.IsWhole) (arg5 : Memref sig .tc .vmem S16x512 .bf16) (harg5 : arg5.IsWhole) (arg6 : Memref sig .tc .vmem S8x128 .i32) (harg6 : arg6.IsWhole) (arg7 : Memref sig .tc .vmem S8x128 .i32) (harg7 : arg7.IsWhole) (arg8 : Memref sig .tc .vmem S8x128 .i32) (harg8 : arg8.IsWhole) (arg9 : Memref sig .tc .vmem S8x128 .i32) (harg9 : arg9.IsWhole) (arg10 : Memref sig .tc .vmem S512x512 .bf16) (harg10 : arg10.IsWhole) (arg11 : Memref sig .tc .vmem S256x2x2048 .bf16) (harg11 : arg11.IsWhole) (arg12 : Memref sig .tc .vmem S512x32 .bf16) (harg12 : arg12.IsWhole) (arg13 : Memref sig .tc .vmem S1024x2x512 .bf16) (harg13 : arg13.IsWhole) (v14 v17 v20 v22 : Vec Ideal S8x128 .i32) (X_arg2 : BufTy.Contents (Elt Ideal) arg2.view.ty) (X_arg3 : BufTy.Contents (Elt Ideal) arg3.view.ty)
    (T : Tables v14 v17 v20 v22) (k : Fin k0_t2_loop.trips) :
    ∀ pc ∈ tripL_k0_t2 𝒱 c bd i arg1 harg1 arg2 harg2 arg3 harg3 arg4 harg4 arg5 harg5 arg6 harg6 arg7 harg7 arg8 harg8 arg9 harg9 arg10 harg10 arg11 harg11 arg12 harg12 arg13 harg13 v14 v17 v20 v22 X_arg2 X_arg3 k,
      ∀ x, pc.2 x = wdAt (arg2.view.read (Elt Ideal) X_arg2) (arg3.view.read (Elt Ideal) X_arg3) (pc.1.emb x) := by
  unfold tripL_k0_t2 trip_k0_t2
  dsimp only
  simp only [List.forall_mem_cons]
  exact ⟨
    fun x => put x (atB1 T (arg2.view.read (Elt Ideal) X_arg2) (arg3.view.read (Elt Ideal) X_arg3) k.val 1 1 (by decide) _ _ _ (k0_off39_eq k 1) (k0_off39_inb k 1) (k0_off41_inb k) _ x (k0_off41_eq k) (k0_off42_eq k 1 1)) rfl,
    fun x => put x (atB0 T (arg2.view.read (Elt Ideal) X_arg2) (arg3.view.read (Elt Ideal) X_arg3) k.val 1 1 (by decide) _ _ _ (k0_off39_eq k 1) (k0_off39_inb k 1) (k0_off41_inb k) _ x (k0_off41_eq k) (k0_off42_eq k 1 0)) rfl,
    fun x => put x (atB1 T (arg2.view.read (Elt Ideal) X_arg2) (arg3.view.read (Elt Ideal) X_arg3) k.val 0 1 (by decide) _ _ _ (k0_off39_eq k 0) (k0_off39_inb k 0) (k0_off41_inb k) _ x (k0_off41_eq k) (k0_off42_eq k 0 1)) rfl,
    fun x => put x (atB0 T (arg2.view.read (Elt Ideal) X_arg2) (arg3.view.read (Elt Ideal) X_arg3) k.val 0 1 (by decide) _ _ _ (k0_off39_eq k 0) (k0_off39_inb k 0) (k0_off41_inb k) _ x (k0_off41_eq k) (k0_off42_eq k 0 0)) rfl,
    fun x => put x (atA1 T (arg2.view.read (Elt Ideal) X_arg2) (arg3.view.read (Elt Ideal) X_arg3) k.val 1 1 (by decide) _ _ _ (k0_off39_eq k 1) (k0_off39_inb k 1) (k0_off38_inb k) _ x (k0_off38_eq k) (k0_off40_eq k 1 1)) rfl,
    fun x => put x (atA0 T (arg2.view.read (Elt Ideal) X_arg2) (arg3.view.read (Elt Ideal) X_arg3) k.val 1 1 (by decide) _ _ _ (k0_off39_eq k 1) (k0_off39_inb k 1) (k0_off38_inb k) _ x (k0_off38_eq k) (k0_off40_eq k 1 0)) rfl,
    fun x => put x (atA1 T (arg2.view.read (Elt Ideal) X_arg2) (arg3.view.read (Elt Ideal) X_arg3) k.val 0 1 (by decide) _ _ _ (k0_off39_eq k 0) (k0_off39_inb k 0) (k0_off38_inb k) _ x (k0_off38_eq k) (k0_off40_eq k 0 1)) rfl,
    fun x => put x (atA0 T (arg2.view.read (Elt Ideal) X_arg2) (arg3.view.read (Elt Ideal) X_arg3) k.val 0 1 (by decide) _ _ _ (k0_off39_eq k 0) (k0_off39_inb k 0) (k0_off38_inb k) _ x (k0_off38_eq k) (k0_off40_eq k 0 0)) rfl,
    fun x => put x (atB1 T (arg2.view.read (Elt Ideal) X_arg2) (arg3.view.read (Elt Ideal) X_arg3) k.val 1 0 (by decide) _ _ _ (k0_off34_eq k 1) (k0_off34_inb k 1) (k0_off36_inb k) _ x (k0_off36_eq k) (k0_off37_eq k 1 1)) rfl,
    fun x => put x (atB0 T (arg2.view.read (Elt Ideal) X_arg2) (arg3.view.read (Elt Ideal) X_arg3) k.val 1 0 (by decide) _ _ _ (k0_off34_eq k 1) (k0_off34_inb k 1) (k0_off36_inb k) _ x (k0_off36_eq k) (k0_off37_eq k 1 0)) rfl,
    fun x => put x (atB1 T (arg2.view.read (Elt Ideal) X_arg2) (arg3.view.read (Elt Ideal) X_arg3) k.val 0 0 (by decide) _ _ _ (k0_off34_eq k 0) (k0_off34_inb k 0) (k0_off36_inb k) _ x (k0_off36_eq k) (k0_off37_eq k 0 1)) rfl,
    fun x => put x (atB0 T (arg2.view.read (Elt Ideal) X_arg2) (arg3.view.read (Elt Ideal) X_arg3) k.val 0 0 (by decide) _ _ _ (k0_off34_eq k 0) (k0_off34_inb k 0) (k0_off36_inb k) _ x (k0_off36_eq k) (k0_off37_eq k 0 0)) rfl,
    fun x => put x (atA1 T (arg2.view.read (Elt Ideal) X_arg2) (arg3.view.read (Elt Ideal) X_arg3) k.val 1 0 (by decide) _ _ _ (k0_off34_eq k 1) (k0_off34_inb k 1) (k0_off33_inb k) _ x (k0_off33_eq k) (k0_off35_eq k 1 1)) rfl,
    fun x => put x (atA0 T (arg2.view.read (Elt Ideal) X_arg2) (arg3.view.read (Elt Ideal) X_arg3) k.val 1 0 (by decide) _ _ _ (k0_off34_eq k 1) (k0_off34_inb k 1) (k0_off33_inb k) _ x (k0_off33_eq k) (k0_off35_eq k 1 0)) rfl,
    fun x => put x (atA1 T (arg2.view.read (Elt Ideal) X_arg2) (arg3.view.read (Elt Ideal) X_arg3) k.val 0 0 (by decide) _ _ _ (k0_off34_eq k 0) (k0_off34_inb k 0) (k0_off33_inb k) _ x (k0_off33_eq k) (k0_off35_eq k 0 1)) rfl,
    fun x => put x (atA0 T (arg2.view.read (Elt Ideal) X_arg2) (arg3.view.read (Elt Ideal) X_arg3) k.val 0 0 (by decide) _ _ _ (k0_off34_eq k 0) (k0_off34_inb k 0) (k0_off33_inb k) _ x (k0_off33_eq k) (k0_off35_eq k 0 0)) rfl,
    fun _ h => absurd h List.not_mem_nil⟩

/-- … and so does every piece of the loop. -/
theorem loop2 (𝒱 : Variants) (c : Dev nD) (bd : Option 𝒱.V) (i : grid0.Coords) (arg1 : Memref sig .tc .vmem S512x2048 .bf16) (harg1 : arg1.IsWhole) (arg2 : Memref sig .tc .vmem S2048x256 .i8) (harg2 : arg2.IsWhole) (arg3 : Memref sig .tc .vmem S32x512 .f32) (harg3 : arg3.IsWhole) (arg4 : Memref sig .tc .vmem S2048x16 .bf16) (harg4 : arg4.IsWhole) (arg5 : Memref sig .tc .vmem S16x512 .bf16) (harg5 : arg5.IsWhole) (arg6 : Memref sig .tc .vmem S8x128 .i32) (harg6 : arg6.IsWhole) (arg7 : Memref sig .tc .vmem S8x128 .i32) (harg7 : arg7.IsWhole) (arg8 : Memref sig .tc .vmem S8x128 .i32) (harg8 : arg8.IsWhole) (arg9 : Memref sig .tc .vmem S8x128 .i32) (harg9 : arg9.IsWhole) (arg10 : Memref sig .tc .vmem S512x512 .bf16) (harg10 : arg10.IsWhole) (arg11 : Memref sig .tc .vmem S256x2x2048 .bf16) (harg11 : arg11.IsWhole) (arg12 : Memref sig .tc .vmem S512x32 .bf16) (harg12 : arg12.IsWhole) (arg13 : Memref sig .tc .vmem S1024x2x512 .bf16) (harg13 : arg13.IsWhole) (v14 v17 v20 v22 : Vec Ideal S8x128 .i32) (X_arg2 : BufTy.Contents (Elt Ideal) arg2.view.ty) (X_arg3 : BufTy.Contents (Elt Ideal) arg3.view.ty)
    (T : Tables v14 v17 v20 v22) (k : Nat) (hk : k ≤ k0_t2_loop.trips) :
    ∀ pc ∈ pb_k0_t2 𝒱 c bd i arg1 harg1 arg2 harg2 arg3 harg3 arg4 harg4 arg5 harg5 arg6 harg6 arg7 harg7 arg8 harg8 arg9 harg9 arg10 harg10 arg11 harg11 arg12 harg12 arg13 harg13 v14 v17 v20 v22 X_arg2 X_arg3 k,
      ∀ x, pc.2 x = wdAt (arg2.view.read (Elt Ideal) X_arg2) (arg3.view.read (Elt Ideal) X_arg3) (pc.1.emb x) := by
  induction k with
  | zero => intro pc h; exact absurd h List.not_mem_nil
  | succ k ih =>
    rw [pb_k0_t2_succ _ _ _ _ _ _ _ _ _ _ _ _ _ _ _ _ _ _ _ _ _ _ _ _ _ _ _ _ _ _ _ _ _ _ _ _ ⟨k, hk⟩]
    intro pc h
    rcases List.mem_append.mp h with h | h
    · exact trip2 𝒱 c bd i arg1 harg1 arg2 harg2 arg3 harg3 arg4 harg4 arg5 harg5 arg6 harg6 arg7 harg7 arg8 harg8 arg9 harg9 arg10 harg10 arg11 harg11 arg12 harg12 arg13 harg13 v14 v17 v20 v22 X_arg2 X_arg3 T ⟨k, hk⟩ pc h
    · exact ih (Nat.le_of_succ_le hk) pc h

end Cert.KernelIdeal.Dec
-- ==== Proof.Body.lean ====
/- What the kernel's body leaves at one grid point: the reordered activations and the doubled first factor of the low-rank
   part in the two buffers it keeps (at the first point), and in the block of the result the product of the reordered
   activations with the decoded weights, plus the low-rank part. -/
module

public import proofs.«01_k».proof.Proof.Reorder
public import proofs.«01_k».proof.Proof.Trips
public import proofs.«01_k».proof.Proof.Gen.KernelIdeal.Frame
public import Idealize.ShloMosaic.Lib.VecWindow

@[expose] public section

noncomputable section

namespace Cert.KernelIdeal.Dec

open Idealize.ShloMosaic Idealize.ShloMosaic.ValueIdx Idealize.ShloMosaic.TcCoe Idealize.SL.Sem Cert.KernelIdeal Cert.KernelIdeal.Gen

/-- One block of the result from the two kept buffers, the decoded weights and the block's columns of the second low-rank
    factor. -/
def blockOut (xp : Vec Ideal S256x2x2048 .bf16) (hh : Vec Ideal S512x32 .bf16) (wd : Vec Ideal S1024x2x512 .bf16) (b : Vec Ideal S16x512 .bf16) :
    Vec Ideal S512x512 .bf16 :=
  k0_pay1 (k0_pay146 xp) (k0_pay147 wd) (constant S512x512 .f32 0x00000000#32) b hh

section

variable (c : Dev nD) (i : grid0.Coords) (arg1 : Memref sig .tc .vmem S512x2048 .bf16) (harg1 : arg1.IsWhole) (arg2 : Memref sig .tc .vmem S2048x256 .i8) (harg2 : arg2.IsWhole) (arg3 : Memref sig .tc .vmem S32x512 .f32) (harg3 : arg3.IsWhole) (arg4 : Memref sig .tc .vmem S2048x16 .bf16) (harg4 : arg4.IsWhole) (arg5 : Memref sig .tc .vmem S16x512 .bf16) (harg5 : arg5.IsWhole) (arg6 : Memref sig .tc .vmem S8x128 .i32) (harg6 : arg6.IsWhole) (arg7 : Memref sig .tc .vmem S8x128 .i32) (harg7 : arg7.IsWhole) (arg8 : Memref sig .tc .vmem S8x128 .i32) (harg8 : arg8.IsWhole) (arg9 : Memref sig .tc .vmem S8x128 .i32) (harg9 : arg9.IsWhole) (arg10 : Memref sig .tc .vmem S512x512 .bf16) (harg10 : arg10.IsWhole) (arg11 : Memref sig .tc .vmem S256x2x2048 .bf16) (harg11 : arg11.IsWhole) (arg12 : Memref sig .tc .vmem S512x32 .bf16) (harg12 : arg12.IsWhole) (arg13 : Memref sig .tc .vmem S1024x2x512 .bf16) (harg13 : arg13.IsWhole)

/-- The buffer of reordered activations, read whole after its loop. -/
theorem read1 (hc0 : cond0_0 i) (x0 : Vec Ideal S512x2048 .bf16) (inb) :
    arg11.view.readCov (pb_k0_t1 Variants.none c none i arg1 harg1 arg2 harg2 arg3 harg3 arg4 harg4 arg5 harg5 arg6 harg6 arg7 harg7 arg8 harg8 arg9 harg9 arg10 harg10 arg11 harg11 arg12 harg12 arg13 harg13 hc0 (harg1.unread x0) (Scf.trips k0_t1_loop.lb k0_t1_loop.ub k0_t1_loop.st))
      (Rect.unit (s := S256x2x2048) ![0, 0, 0] S256x2x2048.size inb).toLoadRect = xpAt x0 := by
  funext y
  have e : (Rect.unit (s := S256x2x2048) ![0, 0, 0] S256x2x2048.size inb).toLoadRect.idx y = y :=
    Rect.emb_unit_full (s := S256x2x2048) inb y
  rw [View.readCov_eq_canon']
  refine (congrArg (View.canon _) e).trans ?_
  have hp := loop1 Variants.none c none i arg1 harg1 arg2 harg2 arg3 harg3 arg4 harg4 arg5 harg5 arg6 harg6 arg7 harg7 arg8 harg8 arg9 harg9 arg10 harg10 arg11 harg11 arg12 harg12 arg13 harg13 hc0 (harg1.unread x0) _ (Nat.le_refl _)
  rw [harg1.read_unread] at hp
  exact View.canon_apply_of_pieces _ _ hp y
    (View.cover_of_tiledL (pb_k0_t1 Variants.none c none i arg1 harg1 arg2 harg2 arg3 harg3 arg4 harg4 arg5 harg5 arg6 harg6 arg7 harg7 arg8 harg8 arg9 harg9 arg10 harg10 arg11 harg11 arg12 harg12 arg13 harg13 hc0 (harg1.unread x0) (Scf.trips k0_t1_loop.lb k0_t1_loop.ub k0_t1_loop.st)) S8x2x128.size (by sl_kernel_rfl) y)

/-- The buffer of decoded weights, read whole after its loop. -/
theorem read2 (x1 : Vec Ideal S2048x256 .i8) (x2 : Vec Ideal S32x512 .f32) (x5 x6 x7 x8 : Vec Ideal S8x128 .i32) (T : Tables x5 x6 x7 x8) (inb) :
    arg13.view.readCov (pb_k0_t2 Variants.none c none i arg1 harg1 arg2 harg2 arg3 harg3 arg4 harg4 arg5 harg5 arg6 harg6 arg7 harg7 arg8 harg8 arg9 harg9 arg10 harg10 arg11 harg11 arg12 harg12 arg13 harg13 x5 x6 x7 x8 (harg2.unread x1) (harg3.unread x2) (Scf.trips k0_t2_loop.lb k0_t2_loop.ub k0_t2_loop.st))
      (Rect.unit (s := S1024x2x512) ![0, 0, 0] S1024x2x512.size inb).toLoadRect = wdAt x1 x2 := by
  funext y
  have e : (Rect.unit (s := S1024x2x512) ![0, 0, 0] S1024x2x512.size inb).toLoadRect.idx y = y :=
    Rect.emb_unit_full (s := S1024x2x512) inb y
  rw [View.readCov_eq_canon']
  refine (congrArg (View.canon _) e).trans ?_
  have hp := loop2 Variants.none c none i arg1 harg1 arg2 harg2 arg3 harg3 arg4 harg4 arg5 harg5 arg6 harg6 arg7 harg7 arg8 harg8 arg9 harg9 arg10 harg10 arg11 harg11 arg12 harg12 arg13 harg13 x5 x6 x7 x8 (harg2.unread x1) (harg3.unread x2) T _ (Nat.le_refl _)
  rw [harg2.read_unread, harg3.read_unread] at hp
  exact View.canon_apply_of_pieces _ _ hp y
    (View.cover_of_tiledL (pb_k0_t2 Variants.none c none i arg1 harg1 arg2 harg2 arg3 harg3 arg4 harg4 arg5 harg5 arg6 harg6 arg7 harg7 arg8 harg8 arg9 harg9 arg10 harg10 arg11 harg11 arg12 harg12 arg13 harg13 x5 x6 x7 x8 (harg2.unread x1) (harg3.unread x2) (Scf.trips k0_t2_loop.lb k0_t2_loop.ub k0_t2_loop.st)) S8x2x128.size (by sl_kernel_rfl) y)

/-- A table, read whole. -/
theorem readT (a : Memref sig .tc .vmem S8x128 .i32) (h : a.IsWhole) (x : Vec Ideal S8x128 .i32) (inb) :
    View.readAt (Elt Ideal) a.view (Rect.unit (s := S8x128) ![0, 0] S8x128.size inb).toLoadRect (h.unread x) = x :=
  (View.readAt_full a.view (h.unread x) inb).trans (h.read_unread x)

variable (x0 : Vec Ideal S512x2048 .bf16) (x1 : Vec Ideal S2048x256 .i8) (x2 : Vec Ideal S32x512 .f32) (x3 : Vec Ideal S2048x16 .bf16) (x4 : Vec Ideal S16x512 .bf16) (x5 x6 x7 x8 : Vec Ideal S8x128 .i32)

/-- The block a later point leaves. -/
theorem outB (hc0 : ¬cond0_0 i) (T : Tables x5 x6 x7 x8) (xs0 : Vec Ideal S256x2x2048 .bf16) (xs1 : Vec Ideal S512x32 .bf16) :
    out0_B_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1 = blockOut xs0 xs1 (wdAt x1 x2) x4 := by
  unfold out0_B_9 kernelRun0_B
  dsimp only
  refine (View.read_writes_full (s := S512x512) VO0_9 VO0_9.junk inb_S512x512_S512x512_0_0 _ _).trans ?_
  unfold blockOut kernelRun0_B.sl.r kernelRun0_B.sl.r_1
  rw [readT, readT, readT, readT, read2 _ _ _ _ _ _ _ _ _ _ _ _ _ _ _ _ _ _ _ _ _ _ _ _ _ _ _ _ x1 x2 x5 x6 x7 x8 T]
  have e0 : View.readAt (Elt Ideal) arg11.view (Rect.unit (s := S256x2x2048) ![0, 0, 0] S256x2x2048.size inb_S256x2x2048_S256x2x2048_0_0_0).toLoadRect (harg11.unread xs0) = xs0 :=
    (View.readAt_full arg11.view _ _).trans (harg11.read_unread xs0)
  have e1 : View.readAt (Elt Ideal) arg5.view (Rect.unit (s := S16x512) ![0, 0] S16x512.size inb_S16x512_S16x512_0_0).toLoadRect (harg5.unread x4) = x4 :=
    (View.readAt_full arg5.view _ _).trans (harg5.read_unread x4)
  have e2 : View.readAt (Elt Ideal) arg12.view (Rect.unit (s := S512x32) ![0, 0] S512x32.size inb_S512x32_S512x32_0_0).toLoadRect (harg12.unread xs1) = xs1 :=
    (View.readAt_full arg12.view _ _).trans (harg12.read_unread xs1)
  rw [e0, e1]
  exact congrArg _ e2

/-- The list of the doubled factor's one store, its operands read. -/
theorem listA (x0 : Vec Ideal S512x2048 .bf16) (x3 : Vec Ideal S2048x16 .bf16) :
    kernelRun0_A.sl.HS1_1 c arg1 harg1 arg4 harg4 x0 x3 = [⟨Rect.unit ![0, 0] S512x32.size inb_S512x32_S512x32_0_0, k0_pay136 x0 x3⟩] := by
  unfold kernelRun0_A.sl.HS1_1
  have e0 : View.readAt (Elt Ideal) arg1.view (Rect.unit (s := S512x2048) ![0, 0] S512x2048.size inb_S512x2048_S512x2048_0_0).toLoadRect (harg1.unread x0) = x0 :=
    (View.readAt_full arg1.view _ _).trans (harg1.read_unread x0)
  have e1 : View.readAt (Elt Ideal) arg4.view (Rect.unit (s := S2048x16) ![0, 0] S2048x16.size inb_S2048x16_S2048x16_0_0).toLoadRect (harg4.unread x3) = x3 :=
    (View.readAt_full arg4.view _ _).trans (harg4.read_unread x3)
  rw [e0, e1]

/-- The block the first point leaves. -/
theorem outA (hc0 : cond0_0 i) (T : Tables x5 x6 x7 x8) :
    out0_A_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = blockOut (xpAt x0) (k0_pay136 x0 x3) (wdAt x1 x2) x4 := by
  unfold out0_A_9 kernelRun0_A
  dsimp only
  refine (View.read_writes_full (s := S512x512) VO0_9 VO0_9.junk inb_S512x512_S512x512_0_0 _ _).trans ?_
  unfold blockOut kernelRun0_A.sl.r kernelRun0_A.sl.r_1 kernelRun0_A.sl.v32
  rw [readT, readT, readT, readT, read2 _ _ _ _ _ _ _ _ _ _ _ _ _ _ _ _ _ _ _ _ _ _ _ _ _ _ _ _ x1 x2 x5 x6 x7 x8 T,
    read1 _ _ _ _ _ _ _ _ _ _ _ _ _ _ _ _ _ _ _ _ _ _ _ _ _ _ _ _ hc0 x0, listA]
  have e1 : View.readAt (Elt Ideal) arg5.view (Rect.unit (s := S16x512) ![0, 0] S16x512.size inb_S16x512_S16x512_0_0).toLoadRect (harg5.unread x4) = x4 :=
    (View.readAt_full arg5.view _ _).trans (harg5.read_unread x4)
  rw [e1]
  exact congrArg _ (View.readCov_full (s := S512x32) arg12.view inb_S512x32_S512x32_0_0 inb_S512x32_S512x32_0_0 _ _)

/-- The first point leaves the reordered activations … -/
theorem soutA0 (hc0 : cond0_0 i) : sout0_A_0 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = xpAt x0 := by
  have h := read1 c i arg1 harg1 arg2 harg2 arg3 harg3 arg4 harg4 arg5 harg5 arg6 harg6 arg7 harg7 arg8 harg8 arg9 harg9 arg10 harg10 arg11 harg11 arg12 harg12 arg13 harg13 hc0 x0 inb_S256x2x2048_S256x2x2048_0_0_0
  rw [View.readCov_eq_canon'] at h
  unfold sout0_A_0 kernelRun0_A
  dsimp only
  rw [View.read_writes_junk_eq_canon]
  funext y
  rw [← h]
  exact congrArg _ (Rect.emb_unit_full (s := S256x2x2048) inb_S256x2x2048_S256x2x2048_0_0_0 y).symm

/-- … and the doubled first factor. -/
theorem soutA1 (hc0 : cond0_0 i) : sout0_A_1 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = k0_pay136 x0 x3 := by
  unfold sout0_A_1 kernelRun0_A
  dsimp only
  rw [listA]
  exact View.read_writes_full (s := S512x32) VS0_1 VS0_1.junk inb_S512x32_S512x32_0_0 _ _

end

end Cert.KernelIdeal.Dec
-- ==== Proof.Block.lean ====
/- One block of the result at an index: the row of activations times the column of decoded weights, summed in the order of
   the rows of the weights, plus twice the low-rank part. The kernel contracts in another order of the rows (the same for
   both operands) and gets the factor two by listing the low-rank factors twice. -/
module

public import proofs.«01_k».proof.Proof.Body
public import Idealize.ShloMosaic.Lib.MatmulPlain
public import Idealize.ShloMosaic.Lib.Pipeline.Value

@[expose] public section

noncomputable section

namespace Cert.KernelIdeal.Dec

open Idealize.ShloMosaic Idealize.ShloMosaic.ValueIdx Cert.KernelIdeal Cert.KernelIdeal.Gen

/-- Where the order `sigma` puts a row. -/
def tau (c : Nat) : Nat := c / 32 * 32 + 16 * (c % 2) + 2 * (c % 32 / 4) + c / 2 % 2

theorem tau_lt {c : Nat} (h : c < 2048) : tau c < 2048 := by unfold tau; omega

theorem tau_sigma (k : Nat) : tau (sigma k) = k := by
  obtain ⟨a, b, c, d, hb, hc, hd, rfl⟩ : ∃ a b c d : Nat, b < 2 ∧ c < 8 ∧ d < 2 ∧ k = 32 * a + 16 * b + 2 * c + d :=
    ⟨k / 32, k % 32 / 16, k % 16 / 2, k % 2, by omega, by omega, by omega, by omega⟩
  have e : sigma (32 * a + 16 * b + 2 * c + d) = 32 * a + 4 * c + 2 * d + b := by unfold sigma; omega
  rw [e]
  unfold tau
  omega

theorem sigma_tau (c : Nat) : sigma (tau c) = c := by
  obtain ⟨a, b, d, f, hb, hd, hf, rfl⟩ : ∃ a b d f : Nat, b < 8 ∧ d < 2 ∧ f < 2 ∧ c = 32 * a + 4 * b + 2 * d + f :=
    ⟨c / 32, c % 32 / 4, c / 2 % 2, c % 2, by omega, by omega, by omega, by omega⟩
  have e : tau (32 * a + 4 * b + 2 * d + f) = 32 * a + 16 * f + 2 * b + d := by unfold tau; omega
  rw [e]
  unfold sigma
  omega

/-- The order of the rows is a permutation of them. -/
def order : Fin 2048 ≃ Fin 2048 where
  toFun k := ⟨sigma k.val, sigma_lt (n := 64) k.isLt⟩
  invFun c := ⟨tau c.val, tau_lt c.isLt⟩
  left_inv k := Fin.ext (tau_sigma k.val)
  right_inv c := Fin.ext (sigma_tau c.val)

/-- A buffer of pairs of rows read as its rows: the activations' shape. -/
theorem rowsX (y : S256x2x2048.Idx → Ideal .bf16) (r : Fin 512) (k : Fin 2048) :
    interleaveRows S512x2048
      (shapeCast S256x2048 (rowsOfParity 0 S256x1x2048 y bitcasts_S256x2x2048_w16_S256x1x2048_w32) shapeCasts_S256x1x2048_S256x2048)
      (shapeCast S256x2048 (rowsOfParity 1 S256x1x2048 y bitcasts_S256x2x2048_w16_S256x1x2048_w32) shapeCasts_S256x1x2048_S256x2048)
      bitcasts_S512x2048_w16_S256x2048_w32 (ix2 r k)
    = y (ix3 (⟨r.val / 2, by omega⟩ : Fin 256) (⟨r.val % 2, by omega⟩ : Fin 2) k) := by
  have cell (p : Fin 2) (j : S256x2048.Idx) (h0 : (j 0).val = r.val / 2) (h1 : (j 1).val = k.val) :
      shapeCast S256x2048 (rowsOfParity p S256x1x2048 y bitcasts_S256x2x2048_w16_S256x1x2048_w32) shapeCasts_S256x1x2048_S256x2048 j
        = y (ix3 (⟨r.val / 2, by omega⟩ : Fin 256) p k) := by
    refine (shapeCast_apply _ _ j (ix3 (⟨r.val / 2, by omega⟩ : Fin 256) (0 : Fin 1) k) ?_).trans ?_
    · rw [Shape.rowMajor_val_two, Shape.rowMajor_val_three, h0, h1]
      show (r.val / 2 * 1 + 0) * 2048 + k.val = r.val / 2 * 2048 + k.val
      omega
    · unfold rowsOfParity
      refine congrArg y (funext fun a => ?_)
      match a with
      | ⟨0, _⟩ => rfl
      | ⟨1, _⟩ => exact Fin.ext (by show 2 * 0 + p.val = p.val; omega)
      | ⟨2, _⟩ => rfl
  unfold interleaveRows
  dsimp only
  have hrow : S512x2048.row (ix2 r k) = r.val := rfl
  rw [hrow]
  rcases Nat.mod_two_eq_zero_or_one r.val with h | h
  · rw [if_pos h, cell 0 _ rfl rfl]
    exact congrArg y (congrArg (fun p => ix3 _ p k) (Fin.ext h.symm))
  · rw [if_neg (by omega), cell 1 _ rfl rfl]
    exact congrArg y (congrArg (fun p => ix3 _ p k) (Fin.ext h.symm))

/-- A buffer of pairs of rows read as its rows: the weights' shape. -/
theorem rowsW (y : S1024x2x512.Idx → Ideal .bf16) (r : Fin 2048) (k : Fin 512) :
    interleaveRows S2048x512
      (shapeCast S1024x512 (rowsOfParity 0 S1024x1x512 y bitcasts_S1024x2x512_w16_S1024x1x512_w32) shapeCasts_S1024x1x512_S1024x512)
      (shapeCast S1024x512 (rowsOfParity 1 S1024x1x512 y bitcasts_S1024x2x512_w16_S1024x1x512_w32) shapeCasts_S1024x1x512_S1024x512)
      bitcasts_S2048x512_w16_S1024x512_w32 (ix2 r k)
    = y (ix3 (⟨r.val / 2, by omega⟩ : Fin 1024) (⟨r.val % 2, by omega⟩ : Fin 2) k) := by
  have cell (p : Fin 2) (j : S1024x512.Idx) (h0 : (j 0).val = r.val / 2) (h1 : (j 1).val = k.val) :
      shapeCast S1024x512 (rowsOfParity p S1024x1x512 y bitcasts_S1024x2x512_w16_S1024x1x512_w32) shapeCasts_S1024x1x512_S1024x512 j
        = y (ix3 (⟨r.val / 2, by omega⟩ : Fin 1024) p k) := by
    refine (shapeCast_apply _ _ j (ix3 (⟨r.val / 2, by omega⟩ : Fin 1024) (0 : Fin 1) k) ?_).trans ?_
    · rw [Shape.rowMajor_val_two, Shape.rowMajor_val_three, h0, h1]
      show (r.val / 2 * 1 + 0) * 512 + k.val = r.val / 2 * 512 + k.val
      omega
    · unfold rowsOfParity
      refine congrArg y (funext fun a => ?_)
      match a with
      | ⟨0, _⟩ => rfl
      | ⟨1, _⟩ => exact Fin.ext (by show 2 * 0 + p.val = p.val; omega)
      | ⟨2, _⟩ => rfl
  unfold interleaveRows
  dsimp only
  have hrow : S2048x512.row (ix2 r k) = r.val := rfl
  rw [hrow]
  rcases Nat.mod_two_eq_zero_or_one r.val with h | h
  · rw [if_pos h, cell 0 _ rfl rfl]
    exact congrArg y (congrArg (fun p => ix3 _ p k) (Fin.ext h.symm))
  · rw [if_neg (by omega), cell 1 _ rfl rfl]
    exact congrArg y (congrArg (fun p => ix3 _ p k) (Fin.ext h.symm))

theorem rowsX_xpAt (x : S512x2048.Idx → Ideal .bf16) (r : Fin 512) (k : Fin 2048) :
    xpAt x (ix3 (⟨r.val / 2, by omega⟩ : Fin 256) (⟨r.val % 2, by omega⟩ : Fin 2) k) = x (ix2 r (order k)) := by
  unfold xpAt
  refine congrArg x (funext fun a => ?_)
  match a with
  | ⟨0, _⟩ => exact Fin.ext (by show 2 * (r.val / 2) + r.val % 2 = r.val; omega)
  | ⟨1, _⟩ => rfl

/-- A decoded weight: the level of its code times the scale of its block of 64 rows. -/
def weight (w : S2048x256.Idx → BitVec 8) (s : S32x512.Idx → Ideal .f32) (k : Fin 2048) (j : Fin 512) : EReal :=
  level (code (w (ix2 k (⟨j.val / 2, by omega⟩ : Fin 256))) (j.val % 2)) * s (ix2 (⟨k.val / 64, by omega⟩ : Fin 32) j)

theorem rowsW_wdAt (w : S2048x256.Idx → BitVec 8) (s : S32x512.Idx → Ideal .f32) (k : Fin 2048) (j : Fin 512) :
    wdAt w s (ix3 (⟨k.val / 2, by omega⟩ : Fin 1024) (⟨k.val % 2, by omega⟩ : Fin 2) j) = weight w s (order k) j := by
  unfold wdAt weight
  have hk : (order k).val = sigma k.val := rfl
  congr 1
  · refine congrArg level (congrArg (fun b => code b (j.val % 2)) (congrArg w (funext fun a => ?_)))
    match a with
    | ⟨0, _⟩ =>
      refine Fin.ext ?_
      show 64 * (k.val / 2 / 32) + 32 * (k.val / 2 / 16 % 2) + 4 * (k.val / 2 % 8) + k.val / 2 / 8 % 2 + 2 * (k.val % 2) = sigma k.val
      unfold sigma
      omega
    | ⟨1, _⟩ => rfl
  · refine congrArg s (funext fun a => ?_)
    match a with
    | ⟨0, _⟩ =>
      refine Fin.ext ?_
      show k.val / 2 / 32 = sigma k.val / 64
      rw [sigma_block]
      omega
    | ⟨1, _⟩ => rfl

/-- The main product at an index: the order of the rows drops out of the sum. -/
theorem base_apply (x : S512x2048.Idx → Ideal .bf16) (w : S2048x256.Idx → BitVec 8) (s : S32x512.Idx → Ideal .f32) (r : Fin 512) (j : Fin 512) :
    matmul dot_S512x2048_S2048x512_S512x512_1_0_0_1_n_n none (k0_pay146 (F := Ideal) (xpAt x)) (k0_pay147 (F := Ideal) (wdAt w s))
      (constant S512x512 .f32 0x00000000#32) (ix2 r j) = ∑ k : Fin 2048, x (ix2 r k) * weight w s k j := by
  unfold k0_pay146 k0_pay147
  refine (Ideal.matmul_plain_apply (M := 512) (K := 2048) (N := 512) none _ _ _ r j).trans ?_
  have hz : (constant S512x512 .f32 0x00000000#32 : FVec Ideal S512x512 .f32) (ix2 r j) = (0 : EReal) := Ideal.ofBits_zero_f32
  rw [hz, zero_add, ← Equiv.sum_comp order fun k => x (ix2 r k) * weight w s k j]
  refine Finset.sum_congr rfl fun k _ => ?_
  rw [rowsX, rowsW, rowsX_xpAt, rowsW_wdAt]

/-- The first low-rank product. -/
def low (x : S512x2048.Idx → Ideal .bf16) (a : S2048x16.Idx → Ideal .bf16) (r : Fin 512) (t : Fin 16) : EReal :=
  ∑ k : Fin 2048, x (ix2 r k) * a (ix2 k t)

/-- The first low-rank product, listed twice side by side. -/
theorem doubled_apply (x : S512x2048.Idx → Ideal .bf16) (a : S2048x16.Idx → Ideal .bf16) (r : Fin 512) (c : Fin 32) :
    k0_pay136 (F := Ideal) x a (ix2 r c) = low x a r ⟨c.val % 16, by omega⟩ := by
  unfold k0_pay136
  rw [shapeCast_self, shapeCast_self]
  have cell (t : Fin 16) : (truncf .bf16 (matmul dot_S512x2048_S2048x16_S512x16_1_0_0_1_n_n none (show FVec Ideal S512x2048 .bf16 from x) (show FVec Ideal S2048x16 .bf16 from a)
      (constant S512x16 .f32 0x00000000#32)) bitsLt_bf16_f32 : FVec Ideal S512x16 .bf16) (ix2 r t) = low x a r t := by
    rw [truncf_apply]
    refine (Ideal.matmul_plain_apply (M := 512) (K := 2048) (N := 16) none _ _ _ r t).trans ?_
    have hz : (constant S512x16 .f32 0x00000000#32 : FVec Ideal S512x16 .f32) (ix2 r t) = (0 : EReal) := Ideal.ofBits_zero_f32
    rw [hz, zero_add]
    rfl
  rcases Nat.lt_or_ge c.val 16 with h | h
  · refine (concatenate_pair_apply_left (t := S512x32) (s₁ := S512x16) (s₂ := S512x16) 1 _ _ _ (ix2 r c) rfl (ix2 r (⟨c.val, h⟩ : Fin 16)) fun b => ?_).trans ?_
    · match b with
      | ⟨0, _⟩ => rfl
      | ⟨1, _⟩ => rfl
    · rw [cell]
      exact congrArg _ (Fin.ext (by show c.val = c.val % 16; omega))
  · refine (concatenate_pair_apply_right (t := S512x32) (s₁ := S512x16) (s₂ := S512x16) 1 _ _ _ (ix2 r c) rfl rfl (ix2 r (⟨c.val - 16, by omega⟩ : Fin 16)) (fun b hb => ?_) ?_).trans ?_
    · match b with
      | ⟨0, _⟩ => rfl
      | ⟨1, _⟩ => exact absurd rfl hb
    · show c.val - 16 + 16 = c.val
      omega
    · rw [cell]
      exact congrArg _ (Fin.ext (by show c.val - 16 = c.val % 16; omega))

/-- The second low-rank factor, listed twice one above the other. -/
theorem twice_apply (b : S16x512.Idx → Ideal .bf16) (c : Fin 32) (j : Fin 512) :
    (concatenate S32x512 0 [⟨S16x512, (b : FVec Ideal S16x512 .bf16)⟩, ⟨S16x512, (b : FVec Ideal S16x512 .bf16)⟩] concatenates_S16x512_S16x512_S32x512_d0 : FVec Ideal S32x512 .bf16) (ix2 c j) = b (ix2 (⟨c.val % 16, by omega⟩ : Fin 16) j) := by
  rcases Nat.lt_or_ge c.val 16 with h | h
  · refine (concatenate_pair_apply_left (t := S32x512) (s₁ := S16x512) (s₂ := S16x512) 0 _ _ _ (ix2 c j) rfl (ix2 (⟨c.val, h⟩ : Fin 16) j) fun a => ?_).trans ?_
    · match a with
      | ⟨0, _⟩ => rfl
      | ⟨1, _⟩ => rfl
    · exact congrArg b (congrArg (fun t : Fin 16 => ix2 t j) (Fin.ext (by show c.val = c.val % 16; omega)))
  · refine (concatenate_pair_apply_right (t := S32x512) (s₁ := S16x512) (s₂ := S16x512) 0 _ _ _ (ix2 c j) rfl rfl (ix2 (⟨c.val - 16, by omega⟩ : Fin 16) j) (fun a ha => ?_) ?_).trans ?_
    · match a with
      | ⟨0, _⟩ => exact absurd rfl ha
      | ⟨1, _⟩ => rfl
    · show c.val - 16 + 16 = c.val
      omega
    · exact congrArg b (congrArg (fun t : Fin 16 => ix2 t j) (Fin.ext (by show c.val - 16 = c.val % 16; omega)))

/-- The low-rank part. -/
def delta (x : S512x2048.Idx → Ideal .bf16) (a : S2048x16.Idx → Ideal .bf16) (b : S16x512.Idx → Ideal .bf16) (r : Fin 512) (j : Fin 512) : EReal :=
  ∑ t : Fin 16, low x a r t * b (ix2 t j)

/-- One block of the result at an index. -/
theorem blockOut_apply (x : S512x2048.Idx → Ideal .bf16) (w : S2048x256.Idx → BitVec 8) (s : S32x512.Idx → Ideal .f32)
    (a : S2048x16.Idx → Ideal .bf16) (b : S16x512.Idx → Ideal .bf16) (r : Fin 512) (j : Fin 512) :
    blockOut (xpAt x) (k0_pay136 (F := Ideal) x a) (wdAt w s) b (ix2 r j)
      = (∑ k : Fin 2048, x (ix2 r k) * weight w s k j) + (delta x a b r j + delta x a b r j) := by
  unfold blockOut k0_pay1
  rw [truncf_apply]
  refine congrArg₂ (· + ·) (base_apply x w s r j) ?_
  refine (Ideal.matmul_plain_apply (M := 512) (K := 32) (N := 512) none _ _ _ r j).trans ?_
  have hz : (constant S512x512 .f32 0x00000000#32 : FVec Ideal S512x512 .f32) (ix2 r j) = (0 : EReal) := Ideal.ofBits_zero_f32
  rw [hz, zero_add]
  refine (Finset.sum_congr rfl fun c _ => by rw [doubled_apply, twice_apply] :
    _ = ∑ c : Fin (16 + 16), low x a r ⟨c.val % 16, by omega⟩ * b (ix2 (⟨c.val % 16, by omega⟩ : Fin 16) j)).trans ?_
  rw [Fin.sum_univ_add]
  unfold delta
  refine congrArg₂ (· + ·) (Finset.sum_congr rfl fun t _ => ?_) (Finset.sum_congr rfl fun t _ => ?_)
  · have e : (⟨(Fin.castAdd 16 t).val % 16, by omega⟩ : Fin 16) = t := Fin.ext (by show t.val % 16 = t.val; omega)
    rw [e]
  · have e : (⟨(Fin.natAdd 16 t).val % 16, by omega⟩ : Fin 16) = t := Fin.ext (by show (16 + t.val) % 16 = t.val; omega)
    rw [e]

end Cert.KernelIdeal.Dec
-- ==== Proof.Entry.lean ====
/- What the kernel's grid points read: the arrays as the region finds them (the activations reshaped, the four tables of
   levels), and each point's blocks of them in the arrays' own coordinates. -/
module

public import proofs.«01_k».proof.Proof.Decode
public import proofs.«01_k».proof.Proof.Gen.KernelIdeal.Value

@[expose] public section

noncomputable section

namespace Cert.KernelIdeal.Dec

open Idealize.ShloMosaic Idealize.ShloMosaic.ValueIdx Idealize.ShloMosaic.TcCoe Idealize.SL.Sem Idealize.ShloMosaic.StableHlo Cert.KernelIdeal Cert.KernelIdeal.Gen

variable (m : (ℓ : Loc nD τ sig) → Buf (Elt Ideal) ℓ)

/-- The activations, flattened to 512 rows. -/
theorem entry_x (c : Dev nD) : V m c main_v67 = shapeCast S512x2048 (m ((c : Thread nD τ).loc main_arg0)) shapeCasts_S2x256x2048_S512x2048 := by
  unfold V
  simp only [hostOps0]
  after_results_simp
  all_goals rfl

/-- Two bit patterns in one word, the first lowest. -/
def pairWords {t : Shape} (z : IVec t 32) (lo hi : IVec t 16) : IVec t 32 := ori (extui 32 lo natLt_16_32) (Host.shli (extui 32 hi natLt_16_32) z)

/-- A number per lane. -/
def lanes (n : BitVec 32) : IVec S128 32 := broadcastInDim S128 ![] bcast_S_S128 (fun _ => n : IVec S_ 32)

/-- The sixteen patterns looked up at 128 numbers, a negative one counted from the end. -/
def lookedUp (i : IVec S128 32) : IVec S128 16 :=
  Host.gather gather_S16_S128x1_S128_n_0_n_n_0_1_1 (fun i => lit0 (S16.rowMajor i) : IVec S16 16)
    (broadcastInDim S128x1 ![0] bcast_S128_S128x1_0 (select (cmpi .slt i (lanes 0#32)) (addi i (lanes 16#32)) i))

/-- Every level twice in a word. -/
def dup : IVec S16 32 :=
  pairWords (broadcastInDim S16 ![] bcast_S_S16 (fun _ => 16#32 : IVec S_ 32)) (fun i => lit0 (S16.rowMajor i)) (fun i => lit0 (S16.rowMajor i))

/-- The words of the tables of pairs: lane `i` holds level `i % 16` and level `b + i / 16`. -/
def pairsLow : IVec S128 32 :=
  pairWords (lanes 16#32) (lookedUp (andi (iotaInDim S128 32 0) (lanes 15#32))) (lookedUp (Host.shrsi (iotaInDim S128 32 0) (lanes 4#32)))

def pairsHigh : IVec S128 32 :=
  pairWords (lanes 16#32) (lookedUp (andi (iotaInDim S128 32 0) (lanes 15#32)))
    (lookedUp (addi (lanes 8#32) (Host.shrsi (iotaInDim S128 32 0) (lanes 4#32))))

theorem entry_lo (c : Dev nD) : V m c main_v8 = broadcastInDim S8x128 ![0, 1] bcast_S8x1_S8x128_0_1 (broadcastInDim S8x1 ![0] bcast_S8_S8x1_0 (extractStridedSlice S8 ![0] dup slices_S16_S8_0)) := by
  unfold V
  simp only [hostOps0]
  after_results_simp
  all_goals rfl

theorem entry_hi (c : Dev nD) : V m c main_v11 = broadcastInDim S8x128 ![0, 1] bcast_S8x1_S8x128_0_1 (broadcastInDim S8x1 ![0] bcast_S8_S8x1_0 (extractStridedSlice S8 ![8] dup slices_S16_S8_8)) := by
  unfold V
  simp only [hostOps0]
  after_results_simp
  all_goals rfl

theorem entry_p0 (c : Dev nD) : V m c main_v38 = broadcastInDim S8x128 ![0, 1] bcast_S1x128_S8x128_0_1 (broadcastInDim S1x128 ![1] bcast_S128_S1x128_1 pairsLow) := by
  unfold V
  simp only [hostOps0]
  after_results_simp
  all_goals rfl

theorem entry_p1 (c : Dev nD) : V m c main_v66 = broadcastInDim S8x128 ![0, 1] bcast_S1x128_S8x128_0_1 (broadcastInDim S1x128 ![1] bcast_S128_S1x128_1 pairsHigh) := by
  unfold V
  simp only [hostOps0]
  after_results_simp
  all_goals rfl

/-- A column of eight words, repeated along the lanes. -/
theorem spread_rows (f : S8.Idx → BitVec 32) (r : Fin 8) (l : Fin 128) :
    broadcastInDim S8x128 ![0, 1] bcast_S8x1_S8x128_0_1 (broadcastInDim S8x1 ![0] bcast_S8_S8x1_0 f) (ix2 r l) = f (ix1 r) := by
  refine (broadcastInDim_apply _ bcast_S8x1_S8x128_0_1 _ (ix2 r l) (ix2 r (0 : Fin 1)) fun a => ?_).trans
    (broadcastInDim_apply _ bcast_S8_S8x1_0 f (ix2 r (0 : Fin 1)) (ix1 r) fun a => ?_)
  · match a with
    | ⟨0, _⟩ => rfl
    | ⟨1, _⟩ => rfl
  · match a with
    | ⟨0, _⟩ => rfl

/-- A row of 128 words, repeated along the rows. -/
theorem spread_lanes (f : S128.Idx → BitVec 32) (r : Fin 8) (l : Fin 128) :
    broadcastInDim S8x128 ![0, 1] bcast_S1x128_S8x128_0_1 (broadcastInDim S1x128 ![1] bcast_S128_S1x128_1 f) (ix2 r l) = f (ix1 l) := by
  refine (broadcastInDim_apply _ bcast_S1x128_S8x128_0_1 _ (ix2 r l) (ix2 (0 : Fin 1) l) fun a => ?_).trans
    (broadcastInDim_apply _ bcast_S128_S1x128_1 f (ix2 (0 : Fin 1) l) (ix1 l) fun a => ?_)
  · match a with
    | ⟨0, _⟩ => rfl
    | ⟨1, _⟩ => rfl
  · match a with
    | ⟨0, _⟩ => rfl

/-- The four tables hold the levels. -/
theorem tables (c : Dev nD) : Tables (V m c main_v8) (V m c main_v11) (V m c main_v38) (V m c main_v66) := by
  rw [entry_lo, entry_hi, entry_p0, entry_p1]
  refine ⟨fun r l => ?_, fun r l => ?_, fun r l => ?_, fun r l => ?_⟩
  · rw [spread_rows]
    revert r
    decide +kernel
  · rw [spread_rows]
    revert r
    decide +kernel
  · rw [spread_lanes]
    revert l
    decide +kernel
  · rw [spread_lanes]
    revert l
    decide +kernel

/-! ## The blocks -/

theorem index1 : ∀ t : Fin cfg0.N, win0_1.index t = ![0, t.val] := (by decide +kernel : ∀ t : Fin grid0.N, win0_1.index t = ![0, t.val])
theorem index2 : ∀ t : Fin cfg0.N, win0_2.index t = ![0, t.val] := (by decide +kernel : ∀ t : Fin grid0.N, win0_2.index t = ![0, t.val])
theorem index4 : ∀ t : Fin cfg0.N, win0_4.index t = ![0, t.val] := (by decide +kernel : ∀ t : Fin grid0.N, win0_4.index t = ![0, t.val])

theorem block_x (c : Dev nD) (t : Fin cfg0.N) : (iblk m c 0 t : S512x2048.Idx → Ideal .bf16) = V m c main_v67 := by
  funext y
  refine congrArg (V m c main_v67) (funext fun a => Fin.ext ?_)
  match a with
  | ⟨0, _⟩ => show 0 * 512 + 1 * (y 0).val = (y 0).val; omega
  | ⟨1, _⟩ => show 0 * 2048 + 1 * (y 1).val = (y 1).val; omega

theorem block_a (c : Dev nD) (t : Fin cfg0.N) : (iblk m c 3 t : S2048x16.Idx → Ideal .bf16) = m ((c : Thread nD τ).loc main_arg3) := by
  rw [← V_main_arg3 m c]
  funext y
  refine congrArg (V m c main_arg3) (funext fun a => Fin.ext ?_)
  match a with
  | ⟨0, _⟩ => show 0 * 2048 + 1 * (y 0).val = (y 0).val; omega
  | ⟨1, _⟩ => show 0 * 16 + 1 * (y 1).val = (y 1).val; omega

theorem block_lo (c : Dev nD) (t : Fin cfg0.N) : (iblk m c 5 t : S8x128.Idx → BitVec 32) = V m c main_v8 := by
  funext y
  refine congrArg (V m c main_v8) (funext fun a => Fin.ext ?_)
  match a with
  | ⟨0, _⟩ => show 0 * 8 + 1 * (y 0).val = (y 0).val; omega
  | ⟨1, _⟩ => show 0 * 128 + 1 * (y 1).val = (y 1).val; omega

theorem block_hi (c : Dev nD) (t : Fin cfg0.N) : (iblk m c 6 t : S8x128.Idx → BitVec 32) = V m c main_v11 := by
  funext y
  refine congrArg (V m c main_v11) (funext fun a => Fin.ext ?_)
  match a with
  | ⟨0, _⟩ => show 0 * 8 + 1 * (y 0).val = (y 0).val; omega
  | ⟨1, _⟩ => show 0 * 128 + 1 * (y 1).val = (y 1).val; omega

theorem block_p0 (c : Dev nD) (t : Fin cfg0.N) : (iblk m c 7 t : S8x128.Idx → BitVec 32) = V m c main_v38 := by
  funext y
  refine congrArg (V m c main_v38) (funext fun a => Fin.ext ?_)
  match a with
  | ⟨0, _⟩ => show 0 * 8 + 1 * (y 0).val = (y 0).val; omega
  | ⟨1, _⟩ => show 0 * 128 + 1 * (y 1).val = (y 1).val; omega

theorem block_p1 (c : Dev nD) (t : Fin cfg0.N) : (iblk m c 8 t : S8x128.Idx → BitVec 32) = V m c main_v66 := by
  funext y
  refine congrArg (V m c main_v66) (funext fun a => Fin.ext ?_)
  match a with
  | ⟨0, _⟩ => show 0 * 8 + 1 * (y 0).val = (y 0).val; omega
  | ⟨1, _⟩ => show 0 * 128 + 1 * (y 1).val = (y 1).val; omega

theorem N_lt (t : Fin cfg0.N) : t.val < 14 := lt_of_lt_of_eq t.isLt N_0

/-- The codes of point `t`: 256 columns of bytes. -/
theorem block_w (c : Dev nD) (t : Fin cfg0.N) (k : Fin 2048) (j : Fin 256) (J : Fin 3584) (h : J.val = 256 * t.val + j.val) :
    (iblk m c 1 t : S2048x256.Idx → BitVec 8) (ix2 k j) = (m ((c : Thread nD τ).loc main_arg1) : S2048x3584.Idx → BitVec 8) (ix2 k J) := by
  rw [← V_main_arg1 m c]
  refine congrArg (V m c main_arg1) (funext fun a => Fin.ext ?_)
  match a with
  | ⟨0, _⟩ =>
    show win0_1.index t 0 * 2048 + 1 * k.val = k.val
    rw [index1]
    show 0 * 2048 + 1 * k.val = k.val
    omega
  | ⟨1, _⟩ =>
    show win0_1.index t 1 * 256 + 1 * j.val = J.val
    rw [index1]
    show t.val * 256 + 1 * j.val = J.val
    omega

/-- The scales of point `t`: 512 columns. -/
theorem block_s (c : Dev nD) (t : Fin cfg0.N) (k : Fin 32) (j : Fin 512) (J : Fin 7168) (h : J.val = 512 * t.val + j.val) :
    (iblk m c 2 t : S32x512.Idx → Ideal .f32) (ix2 k j) = (m ((c : Thread nD τ).loc main_arg2) : S32x7168.Idx → Ideal .f32) (ix2 k J) := by
  rw [← V_main_arg2 m c]
  refine congrArg (V m c main_arg2) (funext fun a => Fin.ext ?_)
  match a with
  | ⟨0, _⟩ =>
    show win0_2.index t 0 * 32 + 1 * k.val = k.val
    rw [index2]
    show 0 * 32 + 1 * k.val = k.val
    omega
  | ⟨1, _⟩ =>
    show win0_2.index t 1 * 512 + 1 * j.val = J.val
    rw [index2]
    show t.val * 512 + 1 * j.val = J.val
    omega

/-- The second low-rank factor of point `t`: 512 columns. -/
theorem block_b (c : Dev nD) (t : Fin cfg0.N) (k : Fin 16) (j : Fin 512) (J : Fin 7168) (h : J.val = 512 * t.val + j.val) :
    (iblk m c 4 t : S16x512.Idx → Ideal .bf16) (ix2 k j) = (m ((c : Thread nD τ).loc main_arg4) : S16x7168.Idx → Ideal .bf16) (ix2 k J) := by
  rw [← V_main_arg4 m c]
  refine congrArg (V m c main_arg4) (funext fun a => Fin.ext ?_)
  match a with
  | ⟨0, _⟩ =>
    show win0_4.index t 0 * 16 + 1 * k.val = k.val
    rw [index4]
    show 0 * 16 + 1 * k.val = k.val
    omega
  | ⟨1, _⟩ =>
    show win0_4.index t 1 * 512 + 1 * j.val = J.val
    rw [index4]
    show t.val * 512 + 1 * j.val = J.val
    omega

end Cert.KernelIdeal.Dec
-- ==== Proof.Formula.lean ====
/- The adapted linear layer as one formula over its arguments' entries: an activation row times a column of decoded weights,
   plus twice the low-rank part. -/
module

public import proofs.«01_k».proof.Proof.Bits

@[expose] public section

noncomputable section

namespace Cert.KernelIdeal.Dec

open Idealize.ShloMosaic

/-- A decoded weight: the level of its 4-bit code (two adjacent columns share a byte) times the scale of its block of 64
    rows. -/
def weightOf (w : Fin 2048 → Fin 3584 → BitVec 8) (s : Fin 32 → Fin 7168 → EReal) (k : Fin 2048) (j : Fin 7168) : EReal :=
  level (code (w k ⟨j.val / 2, by omega⟩) (j.val % 2)) * s ⟨k.val / 64, by omega⟩ j

/-- The low-rank part. -/
def lowRank (x : Fin 512 → Fin 2048 → EReal) (a : Fin 2048 → Fin 16 → EReal) (b : Fin 16 → Fin 7168 → EReal) (r : Fin 512) (j : Fin 7168) : EReal :=
  ∑ t : Fin 16, (∑ k : Fin 2048, x r k * a k t) * b t j

/-- An entry of the result. -/
def entry (x : Fin 512 → Fin 2048 → EReal) (w : Fin 2048 → Fin 3584 → BitVec 8) (s : Fin 32 → Fin 7168 → EReal)
    (a : Fin 2048 → Fin 16 → EReal) (b : Fin 16 → Fin 7168 → EReal) (r : Fin 512) (j : Fin 7168) : EReal :=
  (∑ k : Fin 2048, x r k * weightOf w s k j) + (lowRank x a b r j + lowRank x a b r j)

end Cert.KernelIdeal.Dec
-- ==== Proof.KernelValue.lean ====
/- The kernel's result at an index: every grid point leaves its block of the formula, the two buffers kept between points
   holding what the first point stored. -/
module

public import proofs.«01_k».proof.Proof.Block
public import proofs.«01_k».proof.Proof.Entry
public import proofs.«01_k».proof.Proof.Formula

@[expose] public section

noncomputable section

namespace Cert.KernelIdeal.Dec

open Idealize.ShloMosaic Idealize.ShloMosaic.ValueIdx Idealize.ShloMosaic.TcCoe Idealize.SL.Sem Cert.KernelIdeal Cert.KernelIdeal.Gen Cert.KernelIdeal.Value

variable (m : (ℓ : Loc nD τ sig) → Buf (Elt Ideal) ℓ)

theorem tablesAt (c : Dev nD) (t : Fin cfg0.N) : Tables (iblk m c 5 t) (iblk m c 6 t) (iblk m c 7 t) (iblk m c 8 t) := by
  have h := tables m c
  rw [← block_lo m c t, ← block_hi m c t, ← block_p0 m c t, ← block_p1 m c t] at h
  exact h

/-- The activations, as the region finds them. -/
abbrev xIn (c : Dev nD) : S512x2048.Idx → Ideal .bf16 := V m c main_v67

/-- The first low-rank factor. -/
abbrev aIn (c : Dev nD) : S2048x16.Idx → Ideal .bf16 := m ((c : Thread nD τ).loc main_arg3)

/-- What a point leaves: its block of the result, and the two kept buffers. -/
theorem after_point (c : Dev nD) : ∀ (n : ℕ) (hn : n < cfg0.N),
    outsAt0 m c n hn = (blockOut (xpAt (xIn m c)) (k0_pay136 (F := Ideal) (xIn m c) (aIn m c)) (wdAt (iblk m c 1 ⟨n, hn⟩) (iblk m c 2 ⟨n, hn⟩)) (iblk m c 4 ⟨n, hn⟩),
      xpAt (xIn m c), k0_pay136 (F := Ideal) (xIn m c) (aIn m c))
  | 0, hn => by
    rw [outsAt0_A m c ⟨0, hn⟩ rfl, outA _ _ _ _ _ _ _ _ _ _ _ _ _ _ _ _ _ _ _ _ _ _ _ _ _ _ _ _ _ _ _ _ _ _ _ _ _ _ (tablesAt m c ⟨0, hn⟩), soutA0, soutA1]
    have e0 : (iblk m c 0 ⟨0, hn⟩ : S512x2048.Idx → Ideal .bf16) = xIn m c := block_x m c ⟨0, hn⟩
    have e3 : (iblk m c 3 ⟨0, hn⟩ : S2048x16.Idx → Ideal .bf16) = aIn m c := block_a m c ⟨0, hn⟩
    rw [e0, e3]
  | n + 1, hn => by
    have hN : n + 1 < 14 := lt_of_lt_of_eq hn N_0
    rw [outsAt0_B m c ⟨n + 1, hn⟩ (by show ¬(n + 1) % 14 = 0; omega), outB _ _ _ _ _ _ _ _ _ _ _ _ _ _ _ _ _ _ _ _ _ _ _ _ _ _ _ _ _ _ _ _ _ _ _ _ _ _ (tablesAt m c ⟨n + 1, hn⟩)]
    have ih := after_point c n (Nat.lt_of_succ_lt hn)
    have e : outsAt0 m c ((⟨n + 1, hn⟩ : Fin cfg0.N).val - 1) (Nat.lt_of_le_of_lt (Nat.sub_le _ _) (⟨n + 1, hn⟩ : Fin cfg0.N).isLt)
      = outsAt0 m c n (Nat.lt_of_succ_lt hn) := rfl
    rw [e, ih]
    rfl

/-- The arguments' entries. -/
abbrev xArg (c : Dev nD) (r : Fin 512) (k : Fin 2048) : EReal :=
  (m ((c : Thread nD τ).loc main_arg0) : S2x256x2048.Idx → Ideal .bf16) (ix3 (⟨r.val / 256, by omega⟩ : Fin 2) (⟨r.val % 256, by omega⟩ : Fin 256) k)
abbrev wArg (c : Dev nD) (k : Fin 2048) (j : Fin 3584) : BitVec 8 := (m ((c : Thread nD τ).loc main_arg1) : S2048x3584.Idx → BitVec 8) (ix2 k j)
abbrev sArg (c : Dev nD) (k : Fin 32) (j : Fin 7168) : EReal := (m ((c : Thread nD τ).loc main_arg2) : S32x7168.Idx → Ideal .f32) (ix2 k j)
abbrev aArg (c : Dev nD) (k : Fin 2048) (t : Fin 16) : EReal := (m ((c : Thread nD τ).loc main_arg3) : S2048x16.Idx → Ideal .bf16) (ix2 k t)
abbrev bArg (c : Dev nD) (t : Fin 16) (j : Fin 7168) : EReal := (m ((c : Thread nD τ).loc main_arg4) : S16x7168.Idx → Ideal .bf16) (ix2 t j)

theorem xIn_apply (c : Dev nD) (r : Fin 512) (k : Fin 2048) : xIn m c (ix2 r k) = xArg m c r k := by
  unfold xIn
  rw [entry_x]
  refine shapeCast_apply _ _ (ix2 r k) (ix3 (⟨r.val / 256, by omega⟩ : Fin 2) (⟨r.val % 256, by omega⟩ : Fin 256) k) ?_
  rw [Shape.rowMajor_val_two, Shape.rowMajor_val_three]
  show (r.val / 256 * 256 + r.val % 256) * 2048 + k.val = r.val * 2048 + k.val
  omega

/-- The array the kernel's run leaves, at an index. -/
theorem result_apply (c : Dev nD) (r : Fin 512) (J : Fin 7168) :
    (G9 m c : S512x7168.Idx → Ideal .bf16) (ix2 r J) = entry (xArg m c) (wArg m c) (sArg m c) (aArg m c) (bArg m c) r J := by
  have hpt : pt9Of (ix2 r J) = J.val / 512 := by
    show 14 * (r.val / 512 - 0) + 1 * (J.val / 512 - 0) = J.val / 512
    omega
  have hlt : J.val / 512 < cfg0.N := lt_of_lt_of_eq (show J.val / 512 < 14 by omega) N_0.symm
  have hl : loc9Of (ix2 r J) = ix2 r (⟨J.val % 512, by omega⟩ : Fin 512) := by
    funext a
    match a with
    | ⟨0, _⟩ => exact Fin.ext (by show r.val % 512 = r.val; omega)
    | ⟨1, _⟩ => rfl
  unfold G9
  rw [dif_pos (by rw [hpt]; exact hlt), hl, fold0_congr m c _ _ (J.val / 512) (by rw [Nat.zero_add]; exact hlt) hpt, ← outsAt0_sweep m c (J.val / 512) hlt, after_point]
  refine (blockOut_apply _ _ _ _ _ r _).trans ?_
  have hw (k : Fin 2048) : weight (iblk m c 1 ⟨J.val / 512, hlt⟩) (iblk m c 2 ⟨J.val / 512, hlt⟩) k (⟨J.val % 512, by omega⟩ : Fin 512)
      = weightOf (wArg m c) (sArg m c) k J := by
    unfold weight weightOf
    rw [block_w m c ⟨J.val / 512, hlt⟩ k _ (⟨J.val / 2, by omega⟩ : Fin 3584) (by show J.val / 2 = 256 * (J.val / 512) + J.val % 512 / 2; omega),
      block_s m c ⟨J.val / 512, hlt⟩ _ _ J (by show J.val = 512 * (J.val / 512) + J.val % 512; omega)]
    have hodd : (⟨J.val % 512, by omega⟩ : Fin 512).val % 2 = J.val % 2 := by show J.val % 512 % 2 = J.val % 2; omega
    rw [hodd]
  have hd : delta (xIn m c) (aIn m c) (iblk m c 4 ⟨J.val / 512, hlt⟩) r (⟨J.val % 512, by omega⟩ : Fin 512) = lowRank (xArg m c) (aArg m c) (bArg m c) r J := by
    unfold delta lowRank low
    refine Finset.sum_congr rfl fun t _ => ?_
    rw [block_b m c ⟨J.val / 512, hlt⟩ t _ J (by show J.val = 512 * (J.val / 512) + J.val % 512; omega)]
    refine congrArg₂ (· * ·) (Finset.sum_congr rfl fun k _ => ?_) rfl
    rw [xIn_apply]
  unfold entry
  rw [hd]
  refine congrArg₂ (· + ·) (Finset.sum_congr rfl fun k _ => ?_) rfl
  rw [hw, xIn_apply]

end Cert.KernelIdeal.Dec
-- ==== Proof.ReferenceValue.lean ====
/- The reference's result at an index: the same formula, the low-rank part times two. -/
module

public import proofs.«01_k».proof.Proof.Formula
public import proofs.«01_k».proof.Proof.Gen.ReferenceIdeal.Read
public import Idealize.ShloMosaic.Lib.ValueIdx
public import Idealize.ShloMosaic.Lib.Pipeline.Value

@[expose] public section

noncomputable section

namespace Cert.ReferenceIdeal.Dec

open Idealize.ShloMosaic Idealize.ShloMosaic.ValueIdx Cert.ReferenceIdeal Cert.ReferenceIdeal.Gen Cert.ReferenceIdeal.Read Cert.KernelIdeal.Dec

/-! ## The levels: selected by the four bits of a code -/

/-- The test of bit `k`. -/
def bit (v : BitVec 32) (k : BitVec 32) : BitVec 1 := IntOp.cmpi .eq (IntOp.andi (IntOp.shrsi .host v k) 1#32) 1#32

/-- One of sixteen levels, the lowest bit choosing first. -/
def chosen (b0 b1 b2 b3 : BitVec 1) : Ideal .bf16 :=
  let l (b : BitVec 16) : Ideal .bf16 := FloatOps.ofBits .bf16 b
  let s (c : BitVec 1) (x y : Ideal .bf16) : Ideal .bf16 := Scalar.select c x y
  s b3
    (s b2 (s b1 (s b0 (l 0x3F80#16) (l 0x3F39#16)) (s b0 (l 0x3F10#16) (l 0x3EE2#16)))
      (s b1 (s b0 (l 0x3EAD#16) (l 0x3E7C#16)) (s b0 (l 0x3E25#16) (l 0x3DA3#16))))
    (s b2 (s b1 (s b0 (l 0x0000#16) (l 0xBDBA#16)) (s b0 (l 0xBE3D#16) (l 0xBE92#16)))
      (s b1 (s b0 (l 0xBECA#16) (l 0xBF06#16)) (s b0 (l 0xBF32#16) (l 0xBF80#16))))

/-- A choice between two patterns, read. -/
theorem select_bits (c : BitVec 1) (x y : BitVec 16) :
    Scalar.select c (FloatOps.ofBits .bf16 x : Ideal .bf16) (FloatOps.ofBits .bf16 y) = FloatOps.ofBits .bf16 (Scalar.select c x y) := by
  unfold Scalar.select
  split <;> rfl

theorem chosen_level (n : BitVec 4) :
    chosen (BitVec.ofBool (n.getLsbD 0)) (BitVec.ofBool (n.getLsbD 1)) (BitVec.ofBool (n.getLsbD 2)) (BitVec.ofBool (n.getLsbD 3)) = level n := by
  simp only [chosen, select_bits]
  unfold level
  refine congrArg _ ?_
  revert n; decide +kernel

theorem bits_even : ∀ b : BitVec 8, ∀ k : Fin 4,
    bit (IntOp.andi (b.setWidth 32) 15#32) (BitVec.ofNat 32 k.val) = BitVec.ofBool ((code b 0).getLsbD k.val) := by decide +kernel

theorem bits_odd : ∀ b : BitVec 8, ∀ k : Fin 4,
    bit (IntOp.shrsi .host (b.setWidth 32) 4#32) (BitVec.ofNat 32 k.val) = BitVec.ofBool ((code b 1).getLsbD k.val) := by decide +kernel

variable (x0 : S2x256x2048.Idx → Ideal .bf16) (x1 : S2048x3584.Idx → BitVec 8) (x2 : S32x7168.Idx → Ideal .f32) (x3 : S2048x16.Idx → Ideal .bf16)
  (x4 : S16x7168.Idx → Ideal .bf16)

theorem level_even (i : S2048x3584.Idx) : val_main_v43 (F := Ideal) x1 i = level (code (x1 i) 0) := by
  have e : val_main_v43 (F := Ideal) x1 i = chosen (bit (IntOp.andi ((x1 i).setWidth 32) 15#32) 0#32) (bit (IntOp.andi ((x1 i).setWidth 32) 15#32) 1#32)
      (bit (IntOp.andi ((x1 i).setWidth 32) 15#32) 2#32) (bit (IntOp.andi ((x1 i).setWidth 32) 15#32) 3#32) := rfl
  rw [e, ← chosen_level]
  have h (k : Fin 4) := bits_even (x1 i) k
  exact congr (congr (congrArg₂ chosen (h 0) (h 1)) (h 2)) (h 3)

theorem level_odd (i : S2048x3584.Idx) : val_main_v90 (F := Ideal) x1 i = level (code (x1 i) 1) := by
  have e : val_main_v90 (F := Ideal) x1 i = chosen (bit (IntOp.shrsi .host ((x1 i).setWidth 32) 4#32) 0#32) (bit (IntOp.shrsi .host ((x1 i).setWidth 32) 4#32) 1#32)
      (bit (IntOp.shrsi .host ((x1 i).setWidth 32) 4#32) 2#32) (bit (IntOp.shrsi .host ((x1 i).setWidth 32) 4#32) 3#32) := rfl
  rw [e, ← chosen_level]
  have h (k : Fin 4) := bits_odd (x1 i) k
  exact congr (congr (congrArg₂ chosen (h 0) (h 1)) (h 2)) (h 3)

/-! ## The decoded weights -/

theorem scale_even (b : Fin 32) (j : Fin 3584) : val_main_v4 (F := Ideal) x2 (ix2 b j) = x2 (ix2 b (⟨2 * j.val, by omega⟩ : Fin 7168)) := by
  unfold val_main_v4 Host.slice
  refine congrArg x2 (funext fun a => ?_)
  match a with
  | ⟨0, _⟩ => exact Fin.ext (by show 0 + 1 * b.val = b.val; omega)
  | ⟨1, _⟩ => exact Fin.ext (by show 0 + 2 * j.val = 2 * j.val; omega)

theorem scale_odd (b : Fin 32) (j : Fin 3584) : val_main_v51 (F := Ideal) x2 (ix2 b j) = x2 (ix2 b (⟨2 * j.val + 1, by omega⟩ : Fin 7168)) := by
  unfold val_main_v51 Host.slice
  refine congrArg x2 (funext fun a => ?_)
  match a with
  | ⟨0, _⟩ => exact Fin.ext (by show 0 + 1 * b.val = b.val; omega)
  | ⟨1, _⟩ => exact Fin.ext (by show 1 + 2 * j.val = 2 * j.val + 1; omega)

/-- Splitting a row into its block and its place there, and back. -/
theorem split_row (k : Fin 2048) (j : Fin 3584) : idx_main_v48 (ix2 k j) = ix3 (⟨k.val / 64, by omega⟩ : Fin 32) (⟨k.val % 64, by omega⟩ : Fin 64) j := by
  funext a
  match a with
  | ⟨0, _⟩ => exact Fin.ext (by show (k.val * 3584 + j.val) / 229376 = k.val / 64; omega)
  | ⟨1, _⟩ => exact Fin.ext (by show (k.val * 3584 + j.val) / 3584 % 64 = k.val % 64; omega)
  | ⟨2, _⟩ => exact Fin.ext (by show (k.val * 3584 + j.val) % 3584 = j.val; omega)

theorem join_row (k : Fin 2048) (j : Fin 3584) :
    idx_main_v44 (ix3 (⟨k.val / 64, by omega⟩ : Fin 32) (⟨k.val % 64, by omega⟩ : Fin 64) j) = ix2 k j := by
  funext a
  match a with
  | ⟨0, _⟩ => exact Fin.ext (by show ((k.val / 64 * 64 + k.val % 64) * 3584 + j.val) / 3584 = k.val; omega)
  | ⟨1, _⟩ => exact Fin.ext (by show ((k.val / 64 * 64 + k.val % 64) * 3584 + j.val) % 3584 = j.val; omega)

theorem block_row (b : Fin 32) (q : Fin 64) (j : Fin 3584) : idx_main_v45 (idx_main_v46 (ix3 b q j)) = ix2 b j := by
  funext a
  match a with
  | ⟨0, _⟩ => rfl
  | ⟨1, _⟩ => rfl

theorem weight_even (k : Fin 2048) (j : Fin 3584) :
    val_main_v48 (F := Ideal) x1 x2 (ix2 k j) = weightOf (fun k j => x1 (ix2 k j)) (fun b j => x2 (ix2 b j)) k ⟨2 * j.val, by omega⟩ := by
  rw [val_main_v48_apply, split_row, val_main_v47_apply, val_main_v44_apply, join_row, level_even, val_main_v46_apply, val_main_v45_apply, block_row, scale_even]
  unfold weightOf
  have h1 : (⟨2 * j.val / 2, by omega⟩ : Fin 3584) = j := Fin.ext (by show 2 * j.val / 2 = j.val; omega)
  have h2 : 2 * j.val % 2 = 0 := by omega
  simp only [h1, h2]
  rfl

theorem weight_odd (k : Fin 2048) (j : Fin 3584) :
    val_main_v95 (F := Ideal) x1 x2 (ix2 k j) = weightOf (fun k j => x1 (ix2 k j)) (fun b j => x2 (ix2 b j)) k ⟨2 * j.val + 1, by omega⟩ := by
  have h95 : idx_main_v95 (ix2 k j) = idx_main_v48 (ix2 k j) := rfl
  have h91 (i : S32x64x3584.Idx) : idx_main_v91 i = idx_main_v44 i := rfl
  have h92 (i : S32x64x3584.Idx) : idx_main_v92 (idx_main_v93 i) = idx_main_v45 (idx_main_v46 i) := rfl
  rw [val_main_v95_apply, h95, split_row, val_main_v94_apply, val_main_v91_apply, h91, join_row, level_odd, val_main_v93_apply, val_main_v92_apply, h92, block_row, scale_odd]
  unfold weightOf
  have h1 : (⟨(2 * j.val + 1) / 2, by omega⟩ : Fin 3584) = j := Fin.ext (by show (2 * j.val + 1) / 2 = j.val; omega)
  have h2 : (2 * j.val + 1) % 2 = 1 := by omega
  simp only [h1, h2]
  rfl

/-! ## The result -/

/-- Even and odd columns interleaved. -/
theorem stacked (u : Fin 2) (v : Fin 256) (J : Fin 7168) :
    val_main_v101 (F := Ideal) x0 x1 x2 (ix3 u v J)
      = ∑ k : Fin 2048, x0 (ix3 u v k) * weightOf (fun k j => x1 (ix2 k j)) (fun b j => x2 (ix2 b j)) k J := by
  have hi : idx_main_v101 (ix3 u v J) = ix4 u v (⟨J.val / 2, by omega⟩ : Fin 3584) (⟨J.val % 2, by omega⟩ : Fin 2) := by
    funext a
    match a with
    | ⟨0, _⟩ => exact Fin.ext (by show ((u.val * 256 + v.val) * 7168 + J.val) / 1835008 = u.val; omega)
    | ⟨1, _⟩ => exact Fin.ext (by show ((u.val * 256 + v.val) * 7168 + J.val) / 7168 % 256 = v.val; omega)
    | ⟨2, _⟩ => exact Fin.ext (by show ((u.val * 256 + v.val) * 7168 + J.val) / 2 % 3584 = J.val / 2; omega)
    | ⟨3, _⟩ => exact Fin.ext (by show ((u.val * 256 + v.val) * 7168 + J.val) % 2 = J.val % 2; omega)
  rw [val_main_v101_apply, hi]
  unfold val_main_v100
  rcases Nat.mod_two_eq_zero_or_one J.val with hp | hp
  · have hJ : J = ⟨2 * (J.val / 2), by omega⟩ := Fin.ext (by show J.val = 2 * (J.val / 2); omega)
    refine (concatenate_pair_apply_left (3 : Fin S2x256x3584x2.rank) (val_main_v98 (F := Ideal) x0 x1 x2) (val_main_v99 (F := Ideal) x0 x1 x2) _
      (ix4 u v (⟨J.val / 2, by omega⟩ : Fin 3584) (⟨J.val % 2, by omega⟩ : Fin 2)) rfl
      (ix4 u v (⟨J.val / 2, by omega⟩ : Fin 3584) (0 : Fin 1)) (fun b => match b with
        | ⟨0, _⟩ => rfl
        | ⟨1, _⟩ => rfl
        | ⟨2, _⟩ => rfl
        | ⟨3, _⟩ => hp.symm)).trans ?_
    have e : idx_main_v98 (ix4 u v (⟨J.val / 2, by omega⟩ : Fin 3584) (0 : Fin 1)) = ix3 u v (⟨J.val / 2, by omega⟩ : Fin 3584) := by
      funext a
      match a with
      | ⟨0, _⟩ => rfl
      | ⟨1, _⟩ => rfl
      | ⟨2, _⟩ => rfl
    rw [val_main_v98_apply, e, val_main_v96_apply]
    refine Finset.sum_congr rfl fun k _ => ?_
    have hw := weight_even x1 x2 k (⟨J.val / 2, by omega⟩ : Fin 3584)
    rw [← hJ] at hw
    refine congrArg₂ (· * ·) (congrArg x0 (funext fun a => ?_)) (Eq.trans (congrArg _ (funext fun a => ?_)) hw)
    · match a with
      | ⟨0, _⟩ => rfl
      | ⟨1, _⟩ => rfl
      | ⟨2, _⟩ => rfl
    · match a with
      | ⟨0, _⟩ => rfl
      | ⟨1, _⟩ => rfl
  · have hJ : J = ⟨2 * (J.val / 2) + 1, by omega⟩ := Fin.ext (by show J.val = 2 * (J.val / 2) + 1; omega)
    refine (concatenate_pair_apply_right (3 : Fin S2x256x3584x2.rank) (val_main_v98 (F := Ideal) x0 x1 x2) (val_main_v99 (F := Ideal) x0 x1 x2) _
      (ix4 u v (⟨J.val / 2, by omega⟩ : Fin 3584) (⟨J.val % 2, by omega⟩ : Fin 2)) rfl rfl
      (ix4 u v (⟨J.val / 2, by omega⟩ : Fin 3584) (0 : Fin 1)) (fun b hb => match b, hb with
        | ⟨0, _⟩, _ => rfl
        | ⟨1, _⟩, _ => rfl
        | ⟨2, _⟩, _ => rfl
        | ⟨3, _⟩, hb => absurd rfl hb) hp.symm).trans ?_
    have e : idx_main_v99 (ix4 u v (⟨J.val / 2, by omega⟩ : Fin 3584) (0 : Fin 1)) = ix3 u v (⟨J.val / 2, by omega⟩ : Fin 3584) := by
      funext a
      match a with
      | ⟨0, _⟩ => rfl
      | ⟨1, _⟩ => rfl
      | ⟨2, _⟩ => rfl
    rw [val_main_v99_apply, e, val_main_v97_apply]
    refine Finset.sum_congr rfl fun k _ => ?_
    have hw := weight_odd x1 x2 k (⟨J.val / 2, by omega⟩ : Fin 3584)
    rw [← hJ] at hw
    refine congrArg₂ (· * ·) (congrArg x0 (funext fun a => ?_)) (Eq.trans (congrArg _ (funext fun a => ?_)) hw)
    · match a with
      | ⟨0, _⟩ => rfl
      | ⟨1, _⟩ => rfl
      | ⟨2, _⟩ => rfl
    · match a with
      | ⟨0, _⟩ => rfl
      | ⟨1, _⟩ => rfl

theorem result_apply (r : Fin 512) (J : Fin 7168) :
    val_main_v109 (F := Ideal) x0 x1 x2 x3 x4 (ix2 r J)
      = entry (fun r k => x0 (ix3 (⟨r.val / 256, by omega⟩ : Fin 2) (⟨r.val % 256, by omega⟩ : Fin 256) k)) (fun k j => x1 (ix2 k j)) (fun b j => x2 (ix2 b j))
          (fun k t => x3 (ix2 k t)) (fun t j => x4 (ix2 t j)) r J := by
  have hi : idx_main_v109 (ix2 r J) = ix3 (⟨r.val / 256, by omega⟩ : Fin 2) (⟨r.val % 256, by omega⟩ : Fin 256) J := by
    funext a
    match a with
    | ⟨0, _⟩ => exact Fin.ext (by show (r.val * 7168 + J.val) / 1835008 = r.val / 256; omega)
    | ⟨1, _⟩ => exact Fin.ext (by show (r.val * 7168 + J.val) / 7168 % 256 = r.val % 256; omega)
    | ⟨2, _⟩ => exact Fin.ext (by show (r.val * 7168 + J.val) % 7168 = J.val; omega)
  have hd : val_main_v104 (F := Ideal) x0 x3 x4 (ix3 (⟨r.val / 256, by omega⟩ : Fin 2) (⟨r.val % 256, by omega⟩ : Fin 256) J)
      = lowRank (fun r k => x0 (ix3 (⟨r.val / 256, by omega⟩ : Fin 2) (⟨r.val % 256, by omega⟩ : Fin 256) k)) (fun k t => x3 (ix2 k t)) (fun t j => x4 (ix2 t j)) r J := by
    rw [val_main_v104_apply]
    unfold lowRank
    refine Finset.sum_congr rfl fun t _ => ?_
    have el : lidx_main_v104 (ix3 (⟨r.val / 256, by omega⟩ : Fin 2) (⟨r.val % 256, by omega⟩ : Fin 256) J) t
        = ix3 (⟨r.val / 256, by omega⟩ : Fin 2) (⟨r.val % 256, by omega⟩ : Fin 256) t := by
      funext a
      match a with
      | ⟨0, _⟩ => rfl
      | ⟨1, _⟩ => rfl
      | ⟨2, _⟩ => rfl
    have er : ridx_main_v104 (ix3 (⟨r.val / 256, by omega⟩ : Fin 2) (⟨r.val % 256, by omega⟩ : Fin 256) J) t = ix2 t J := by
      funext a
      match a with
      | ⟨0, _⟩ => rfl
      | ⟨1, _⟩ => rfl
    rw [el, er, val_main_v103_apply]
    refine congrArg₂ (· * ·) ((val_main_v102_apply x0 x3 _).trans (Finset.sum_congr rfl fun k _ => congrArg₂ (· * ·) (congrArg x0 ?_) (congrArg x3 ?_))) rfl
    · funext a
      match a with
      | ⟨0, _⟩ => rfl
      | ⟨1, _⟩ => rfl
      | ⟨2, _⟩ => rfl
    · funext a
      match a with
      | ⟨0, _⟩ => rfl
      | ⟨1, _⟩ => rfl
  have htwo (y : EReal) : (FloatOps.ofBits .f32 0x40000000#32 : Ideal .f32) * y = y + y := by
    have h2 : (FloatOps.ofBits .f32 0x40000000#32 : Ideal .f32) = ((2 : ℝ) : EReal) := by
      show Ideal.ofBits .f32 0x40000000#32 = ((2 : ℝ) : EReal)
      simp [Ideal.ofBits, Ideal.ieee, -EReal.coe_mul]; norm_num
    rw [h2]
    show ((2 : ℝ) : EReal) * y = y + y
    induction y with
    | bot => rw [EReal.coe_mul_bot_of_pos (by norm_num)]; rfl
    | top => rw [EReal.coe_mul_top_of_pos (by norm_num)]; rfl
    | coe y => rw [← EReal.coe_mul, ← EReal.coe_add]; congr 1; ring
  rw [val_main_v109_apply, hi, val_main_v108_apply, val_main_v107_apply, val_main_v106_apply, val_main_v105_apply, stacked, hd]
  exact congrArg₂ (· + ·) rfl (htwo _)

end Cert.ReferenceIdeal.Dec
-- ==== Proof.Algebraic.lean ====
/- The two programs leave equal results: both leave the formula. -/
module

public import proofs.«01_k».proof.Defs
public import proofs.«01_k».proof.Proof.KernelValue
public import proofs.«01_k».proof.Proof.ReferenceValue
public import proofs.«01_k».proof.Proof.Gen.ReferenceIdeal.Run

@[expose] public section

noncomputable section

namespace Cert.Proof

open Idealize.ShloMosaic Idealize.ShloMosaic.ValueIdx Idealize.ShloMosaic.StableHlo Idealize.ShloMosaic.TcCoe Idealize.SL.Sem

theorem algebraic : @Cert.algebraic_KernelIdeal_ReferenceIdeal Cert.KernelIdeal.Gen.facts Cert.ReferenceIdeal.Gen.facts := by
  intro m g m' g' _ harg
  refine ⟨fun c => Cert.KernelIdeal.Value.G9 m c, Cert.KernelIdeal.Value.run m g, ?_⟩
  refine (θ_run _ _ _).mono (fun r h c => ⟨(h c).1.trans ?_, (h c).2⟩) (Cert.ReferenceIdeal.Value.run m' g')
  refine (Cert.ReferenceIdeal.Read.val_main_v109_eq (launchContents m' c)).trans ?_
  obtain ⟨h0, h1, h2, h3, h4⟩ := harg c
  have e (i : Cert.ReferenceIdeal.S512x7168.Idx) : ∃ (r : Fin 512) (J : Fin 7168), i = ix2 r J := ⟨_, _, eq_ix2 i⟩
  funext i
  obtain ⟨r, J, rfl⟩ := e i
  refine (Cert.ReferenceIdeal.Dec.result_apply _ _ _ _ _ r J).trans ((Cert.KernelIdeal.Dec.result_apply m c r J).trans ?_).symm
  unfold Cert.KernelIdeal.Dec.xArg Cert.KernelIdeal.Dec.wArg Cert.KernelIdeal.Dec.sArg Cert.KernelIdeal.Dec.aArg Cert.KernelIdeal.Dec.bArg
  have k0 : launchContents m' c (Proc.devRef .tc Cert.ReferenceIdeal.main_arg0) = m ((c.tc : Thread Cert.KernelIdeal.nD Cert.KernelIdeal.τ).loc Cert.KernelIdeal.main_arg0) := h0
  have k1 : launchContents m' c (Proc.devRef .tc Cert.ReferenceIdeal.main_arg1) = m ((c.tc : Thread Cert.KernelIdeal.nD Cert.KernelIdeal.τ).loc Cert.KernelIdeal.main_arg1) := h1
  have k2 : launchContents m' c (Proc.devRef .tc Cert.ReferenceIdeal.main_arg2) = m ((c.tc : Thread Cert.KernelIdeal.nD Cert.KernelIdeal.τ).loc Cert.KernelIdeal.main_arg2) := h2
  have k3 : launchContents m' c (Proc.devRef .tc Cert.ReferenceIdeal.main_arg3) = m ((c.tc : Thread Cert.KernelIdeal.nD Cert.KernelIdeal.τ).loc Cert.KernelIdeal.main_arg3) := h3
  have k4 : launchContents m' c (Proc.devRef .tc Cert.ReferenceIdeal.main_arg4) = m ((c.tc : Thread Cert.KernelIdeal.nD Cert.KernelIdeal.τ).loc Cert.KernelIdeal.main_arg4) := h4
  rw [k0, k1, k2, k3, k4]

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Algebraic
public import Idealize.ShloMosaic.Lib.Bf16Pair
public import Idealize.ShloMosaic.Lib.Bf16PairInverse
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The rules' statements at the shapes of their sites. -/
theorem preserves : Cert.preserves_Kernel_KernelIdeal :=
  ⟨IdealRules.bf16_pair.bufferStatement _ _, IdealRules.bf16_pair.bufferStatement _ _,
    IdealRules.bf16_pair.statement _ _, IdealRules.bf16_pair.packStatement _, IdealRules.bf16_pair.statement _ _,
    IdealRules.bf16_pair.statement _ _, IdealRules.bf16_pair.statement _ _, IdealRules.bf16_pair.statement _ _,
    IdealRules.bf16_pair.statement _ _⟩

/-- The certificate's claim. -/
theorem claim : Cert.Claim := ⟨Cert.Kernel.Gen.facts, Cert.KernelIdeal.Gen.facts, Cert.ReferenceIdeal.Gen.facts, by
  refine ⟨fun m ρ _ => Cert.Kernel.Gen.frame m ρ, fun m ρ _ => Cert.KernelIdeal.Gen.frame m ρ,
    fun m ρ _ => (θ_run _ _ _).mono (fun r h => ⟨fun c => (h c).2, sem_eq_zero_of_no_sems (by decide) r.2⟩)
      (Cert.ReferenceIdeal.Value.run m ρ), preserves, algebraic⟩⟩

end Cert.Proof

end
